-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x2944 : Shape := ⟨3, ![256, 1, 2944]⟩
abbrev S295x27008 : Shape := ⟨2, ![295, 27008]⟩
abbrev S23x27008 : Shape := ⟨2, ![23, 27008]⟩
abbrev S23x2701 : Shape := ⟨2, ![23, 2701]⟩
abbrev S256x2944 : Shape := ⟨2, ![256, 2944]⟩
abbrev S_ : Shape := ⟨0, ![]⟩
abbrev S256x2960 : Shape := ⟨2, ![256, 2960]⟩
abbrev S256x37x8x2x5 : Shape := ⟨5, ![256, 37, 8, 2, 5]⟩
abbrev S256x37x5x8x2 : Shape := ⟨5, ![256, 37, 5, 8, 2]⟩
abbrev S256x3072 : Shape := ⟨2, ![256, 3072]⟩
abbrev S256x27008 : Shape := ⟨2, ![256, 27008]⟩
abbrev S295x512 : Shape := ⟨2, ![295, 512]⟩
abbrev S23x512 : Shape := ⟨2, ![23, 512]⟩
abbrev S256x512 : Shape := ⟨2, ![256, 512]⟩
abbrev S23x27136 : Shape := ⟨2, ![23, 27136]⟩
abbrev S16x512 : Shape := ⟨2, ![16, 512]⟩
abbrev S8x512 : Shape := ⟨2, ![8, 512]⟩
abbrev S1x512 : Shape := ⟨2, ![1, 512]⟩
abbrev S7x512 : Shape := ⟨2, ![7, 512]⟩
abbrev S256x256 : Shape := ⟨2, ![256, 256]⟩
abbrev S144x512 : Shape := ⟨2, ![144, 512]⟩
abbrev S256x144 : Shape := ⟨2, ![256, 144]⟩
abbrev S256x1x27008 : Shape := ⟨3, ![256, 1, 27008]⟩

abbrev nBuf : Space → Nat
  | .hbm => 16
  | .vmem => 12
  | .smem => 0
  | _ => 0

abbrev bufTy : (tb : Table) → Fin (tcTables nBuf tb) → BufTy
  | .hbm, ⟨0, _⟩ => ⟨S256x1x2944, .bf16⟩
  | .hbm, ⟨1, _⟩ => ⟨S295x27008, .i32⟩
  | .hbm, ⟨2, _⟩ => ⟨S23x27008, .bf16⟩
  | .hbm, ⟨3, _⟩ => ⟨S23x2701, .i32⟩
  | .hbm, ⟨4, _⟩ => ⟨S256x2944, .bf16⟩
  | .hbm, ⟨5, _⟩ => ⟨S_, .i32⟩
  | .hbm, ⟨6, _⟩ => ⟨S_, .bf16⟩
  | .hbm, ⟨7, _⟩ => ⟨S256x2960, .bf16⟩
  | .hbm, ⟨8, _⟩ => ⟨S256x37x8x2x5, .bf16⟩
  | .hbm, ⟨9, _⟩ => ⟨S256x37x5x8x2, .bf16⟩
  | .hbm, ⟨10, _⟩ => ⟨S256x2960, .bf16⟩
  | .hbm, ⟨11, _⟩ => ⟨S_, .i32⟩
  | .hbm, ⟨12, _⟩ => ⟨S_, .bf16⟩
  | .hbm, ⟨13, _⟩ => ⟨S256x3072, .bf16⟩
  | .hbm, ⟨14, _⟩ => ⟨S256x27008, .bf16⟩
  | .hbm, ⟨15, _⟩ => ⟨S256x1x27008, .bf16⟩
  | .local _ .vmem, ⟨0, _⟩ => ⟨S256x3072, .bf16⟩
  | .local _ .vmem, ⟨1, _⟩ => ⟨S295x512, .i32⟩
  | .local _ .vmem, ⟨2, _⟩ => ⟨S295x512, .i32⟩
  | .local _ .vmem, ⟨3, _⟩ => ⟨S23x512, .bf16⟩
  | .local _ .vmem, ⟨4, _⟩ => ⟨S23x512, .bf16⟩
  | .local _ .vmem, ⟨5, _⟩ => ⟨S23x2701, .i32⟩
  | .local _ .vmem, ⟨6, _⟩ => ⟨S256x512, .bf16⟩
  | .local _ .vmem, ⟨7, _⟩ => ⟨S256x512, .bf16⟩
  | .local _ .vmem, ⟨8, _⟩ => ⟨S23x27136, .i32⟩
  | .local _ .vmem, ⟨9, _⟩ => ⟨S23x512, .bf16⟩
  | .local _ .vmem, ⟨10, _⟩ => ⟨S23x512, .i32⟩
  | .local _ .vmem, ⟨11, _⟩ => ⟨S23x512, .i32⟩
  | _, _ => ⟨S256x1x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![53], ![false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_off1 (i : grid0.Coords) : Fin 2 → Nat :=
  let c0 : Index := 0#32
  let arg0 : BitVec 32 := BitVec.ofNat 32 (i 0).val
  let c512_i32 : BitVec 32 := 512#32
  let v3 : BitVec 32 := Scalar.muli arg0 c512_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S295x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S23x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S23x2701 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x1x2944 : Shape := ⟨3, ![256, 1, 2944]⟩
abbrev S295x27008 : Shape := ⟨2, ![295, 27008]⟩
abbrev S23x27008 : Shape := ⟨2, ![23, 27008]⟩
abbrev S23x2701 : Shape := ⟨2, ![23, 2701]⟩
abbrev S_ : Shape := ⟨0, ![]⟩
abbrev S23x27010 : Shape := ⟨2, ![23, 27010]⟩
abbrev S10 : Shape := ⟨1, ![10]⟩
abbrev S295x1x27008 : Shape := ⟨3, ![295, 1, 27008]⟩
abbrev S1x10x1 : Shape := ⟨3, ![1, 10, 1]⟩
abbrev S295x10x27008 : Shape := ⟨3, ![295, 10, 27008]⟩
abbrev S2950x27008 : Shape := ⟨2, ![2950, 27008]⟩
abbrev S2944x27008 : Shape := ⟨2, ![2944, 27008]⟩
abbrev S23x128x27008 : Shape := ⟨3, ![23, 128, 27008]⟩
abbrev S23x1x27008 : Shape := ⟨3, ![23, 1, 27008]⟩
abbrev S256x1x27008 : Shape := ⟨3, ![256, 1, 27008]⟩

abbrev nBuf : Space → Nat
  | .hbm => 92
  | .vmem => 0
  | .smem => 0
  | _ => 0

abbrev bufTy : (tb : Table) → Fin (tcTables nBuf tb) → BufTy
  | .hbm, ⟨0, _⟩ => ⟨S256x1x2944, .bf16⟩
  | .hbm, ⟨1, _⟩ => ⟨S295x27008, .i32⟩
  | .hbm, ⟨2, _⟩ => ⟨S23x27008, .bf16⟩
  | .hbm, ⟨3, _⟩ => ⟨S23x2701, .i32⟩
  | .hbm, ⟨4, _⟩ => ⟨S_, .i32⟩
  | .hbm, ⟨5, _⟩ => ⟨S23x2701, .i32⟩
  | .hbm, ⟨6, _⟩ => ⟨S23x2701, .i32⟩
  | .hbm, ⟨7, _⟩ => ⟨S_, .i32⟩
  | .hbm, ⟨8, _⟩ => ⟨S23x2701, .i32⟩
  | .hbm, ⟨9, _⟩ => ⟨S23x2701, .i32⟩
  | .hbm, ⟨10, _⟩ => ⟨S_, .i32⟩
  | .hbm, ⟨11, _⟩ => ⟨S23x2701, .i32⟩
  | .hbm, ⟨12, _⟩ => ⟨S23x2701, .i32⟩
  | .hbm, ⟨13, _⟩ => ⟨S_, .i32⟩
  | .hbm, ⟨14, _⟩ => ⟨S23x2701, .i32⟩
  | .hbm, ⟨15, _⟩ => ⟨S23x2701, .i32⟩
  | .hbm, ⟨16, _⟩ => ⟨S_, .i32⟩
  | .hbm, ⟨17, _⟩ => ⟨S23x2701, .i32⟩
  | .hbm, ⟨18, _⟩ => ⟨S23x2701, .i32⟩
  | .hbm, ⟨19, _⟩ => ⟨S_, .i32⟩
  | .hbm, ⟨20, _⟩ => ⟨S23x2701, .i32⟩
  | .hbm, ⟨21, _⟩ => ⟨S23x2701, .i32⟩
  | .hbm, ⟨22, _⟩ => ⟨S_, .i32⟩
  | .hbm, ⟨23, _⟩ => ⟨S23x2701, .i32⟩
  | .hbm, ⟨24, _⟩ => ⟨S23x2701, .i32⟩
  | .hbm, ⟨25, _⟩ => ⟨S_, .i32⟩
  | .hbm, ⟨26, _⟩ => ⟨S23x2701, .i32⟩
  | .hbm, ⟨27, _⟩ => ⟨S23x2701, .i32⟩
  | .hbm, ⟨28, _⟩ => ⟨S_, .i32⟩
  | .hbm, ⟨29, _⟩ => ⟨S23x2701, .i32⟩
  | .hbm, ⟨30, _⟩ => ⟨S23x2701, .i32⟩
  | .hbm, ⟨31, _⟩ => ⟨S_, .i32⟩
  | .hbm, ⟨32, _⟩ => ⟨S23x2701, .i32⟩
  | .hbm, ⟨33, _⟩ => ⟨S23x2701, .i32⟩
  | .hbm, ⟨34, _⟩ => ⟨S_, .i32⟩
  | .hbm, ⟨35, _⟩ => ⟨S23x2701, .i32⟩
  | .hbm, ⟨36, _⟩ => ⟨S23x2701, .i32⟩
  | .hbm, ⟨37, _⟩ => ⟨S_, .i32⟩
  | .hbm, ⟨38, _⟩ => ⟨S23x2701, .i32⟩
  | .hbm, ⟨39, _⟩ => ⟨S23x2701, .i32⟩
  | .hbm, ⟨40, _⟩ => ⟨S_, .i32⟩
  | .hbm, ⟨41, _⟩ => ⟨S23x2701, .i32⟩
  | .hbm, ⟨42, _⟩ => ⟨S23x2701, .i32⟩
  | .hbm, ⟨43, _⟩ => ⟨S_, .i32⟩
  | .hbm, ⟨44, _⟩ => ⟨S23x2701, .i32⟩
  | .hbm, ⟨45, _⟩ => ⟨S23x2701, .i32⟩
  | .hbm, ⟨46, _⟩ => ⟨S_, .i32⟩
  | .hbm, ⟨47, _⟩ => ⟨S23x2701, .i32⟩
  | .hbm, ⟨48, _⟩ => ⟨S23x2701, .i32⟩
  | .hbm, ⟨49, _⟩ => ⟨S_, .i32⟩
  | .hbm, ⟨50, _⟩ => ⟨S23x2701, .i32⟩
  | .hbm, ⟨51, _⟩ => ⟨S23x2701, .i32⟩
  | .hbm, ⟨52, _⟩ => ⟨S_, .i32⟩
  | .hbm, ⟨53, _⟩ => ⟨S23x2701, .i32⟩
  | .hbm, ⟨54, _⟩ => ⟨S23x2701, .i32⟩
  | .hbm, ⟨55, _⟩ => ⟨S_, .i32⟩
  | .hbm, ⟨56, _⟩ => ⟨S23x2701, .i32⟩
  | .hbm, ⟨57, _⟩ => ⟨S23x2701, .i32⟩
  | .hbm, ⟨58, _⟩ => ⟨S_, .i32⟩
  | .hbm, ⟨59, _⟩ => ⟨S23x2701, .i32⟩
  | .hbm, ⟨60, _⟩ => ⟨S23x2701, .i32⟩
  | .hbm, ⟨61, _⟩ => ⟨S_, .i32⟩
  | .hbm, ⟨62, _⟩ => ⟨S23x2701, .i32⟩
  | .hbm, ⟨63, _⟩ => ⟨S23x2701, .i32⟩
  | .hbm, ⟨64, _⟩ => ⟨S23x27010, .i32⟩
  | .hbm, ⟨65, _⟩ => ⟨S23x27008, .i32⟩
  | .hbm, ⟨66, _⟩ => ⟨S23x27008, .bf16⟩
  | .hbm, ⟨67, _⟩ => ⟨S10, .i32⟩
  | .hbm, ⟨68, _⟩ => ⟨S_, .i32⟩
  | .hbm, ⟨69, _⟩ => ⟨S10, .i32⟩
  | .hbm, ⟨70, _⟩ => ⟨S10, .i32⟩
  | .hbm, ⟨71, _⟩ => ⟨S295x1x27008, .i32⟩
  | .hbm, ⟨72, _⟩ => ⟨S1x10x1, .i32⟩
  | .hbm, ⟨73, _⟩ => ⟨S295x10x27008, .i32⟩
  | .hbm, ⟨74, _⟩ => ⟨S295x10x27008, .i32⟩
  | .hbm, ⟨75, _⟩ => ⟨S295x10x27008, .i32⟩
  | .hbm, ⟨76, _⟩ => ⟨S_, .i32⟩
  | .hbm, ⟨77, _⟩ => ⟨S295x10x27008, .i32⟩
  | .hbm, ⟨78, _⟩ => ⟨S295x10x27008, .i32⟩
  | .hbm, ⟨79, _⟩ => ⟨S2950x27008, .i32⟩
  | .hbm, ⟨80, _⟩ => ⟨S2944x27008, .i32⟩
  | .hbm, ⟨81, _⟩ => ⟨S2944x27008, .bf16⟩
  | .hbm, ⟨82, _⟩ => ⟨S23x128x27008, .bf16⟩
  | .hbm, ⟨83, _⟩ => ⟨S23x1x27008, .bf16⟩
  | .hbm, ⟨84, _⟩ => ⟨S23x128x27008, .bf16⟩
  | .hbm, ⟨85, _⟩ => ⟨S23x128x27008, .bf16⟩
  | .hbm, ⟨86, _⟩ => ⟨S23x1x27008, .bf16⟩
  | .hbm, ⟨87, _⟩ => ⟨S23x128x27008, .bf16⟩
  | .hbm, ⟨88, _⟩ => ⟨S23x128x27008, .bf16⟩
  | .hbm, ⟨89, _⟩ => ⟨S2944x27008, .bf16⟩
  | .hbm, ⟨90, _⟩ => ⟨S256x1x27008, .f32⟩
  | .hbm, ⟨91, _⟩ => ⟨S256x1x27008, .bf16⟩
  | _, _ => ⟨S256x1x2944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_c_10 : Ref sig .tc := ⟨.hbm, 37, rfl⟩
abbrev main_v22 : Ref sig .tc := ⟨.hbm, 38, rfl⟩
abbrev main_v23 : Ref sig .tc := ⟨.hbm, 39, rfl⟩
abbrev main_c_11 : Ref sig .tc := ⟨.hbm, 40, rfl⟩
abbrev main_v24 : Ref sig .tc := ⟨.hbm, 41, rfl⟩
abbrev main_v25 : Ref sig .tc := ⟨.hbm, 42, rfl⟩
abbrev main_c_12 : Ref sig .tc := ⟨.hbm, 43, rfl⟩
abbrev main_v26 : Ref sig .tc := ⟨.hbm, 44, rfl⟩
abbrev main_v27 : Ref sig .tc := ⟨.hbm, 45, rfl⟩
abbrev main_c_13 : Ref sig .tc := ⟨.hbm, 46, rfl⟩
abbrev main_v28 : Ref sig .tc := ⟨.hbm, 47, rfl⟩
abbrev main_v29 : Ref sig .tc := ⟨.hbm, 48, rfl⟩
abbrev main_c_14 : Ref sig .tc := ⟨.hbm, 49, rfl⟩
abbrev main_v30 : Ref sig .tc := ⟨.hbm, 50, rfl⟩
abbrev main_v31 : Ref sig .tc := ⟨.hbm, 51, rfl⟩
abbrev main_c_15 : Ref sig .tc := ⟨.hbm, 52, rfl⟩
abbrev main_v32 : Ref sig .tc := ⟨.hbm, 53, rfl⟩
abbrev main_v33 : Ref sig .tc := ⟨.hbm, 54, rfl⟩
abbrev main_c_16 : Ref sig .tc := ⟨.hbm, 55, rfl⟩
abbrev main_v34 : Ref sig .tc := ⟨.hbm, 56, rfl⟩
abbrev main_v35 : Ref sig .tc := ⟨.hbm, 57, rfl⟩
abbrev main_c_17 : Ref sig .tc := ⟨.hbm, 58, rfl⟩
abbrev main_v36 : Ref sig .tc := ⟨.hbm, 59, rfl⟩
abbrev main_v37 : Ref sig .tc := ⟨.hbm, 60, rfl⟩
abbrev main_c_18 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_19 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_20 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Proof.Shared.lean ====
/-
  What the two runs of the kernel's body share: the condition under which a grid point fills the scratch of unpacked
  zero points, the staging and scratch buffers as the body is passed them, and the region's invariant with the four
  scratch buffers named.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition under which the body unpacks the zero points. -/
abbrev cond0_0 (i : grid0.Coords) : Prop := (Scalar.cmpi .ne (Scalar.extui (Scalar.cmpi .eq (BitVec.ofNat 32 (i 0).val) 0#32)) 0#32) = 1#1
/-- It holds at the first grid point only. -/
theorem hcond0_0 : ∀ t : Fin cfg0.N, cond0_0 (grid0.coords t) ↔ t.val % 53 = 0 :=
  (fun t => by
    have ht : t.val < 53 := Nat.lt_of_lt_of_eq t.isLt N_0
    have e0 : (grid0.coords t 0).val = t.val / 1 % 53 := Pipeline.Grid.coords_val t 0 (by decide) rfl
    simp only [cond0_0, e0]
    word_cmp
   : ∀ t : Fin grid0.N, cond0_0 (grid0.coords t) ↔ t.val % 53 = 0)

/-! ## The kernel body on any staging memrefs: a subtype the run finds -/

/-- One staging buffer of the result's window, through which its contents are stated. -/
abbrev VO0_4 : View sig .tc .vmem S256x512 .bf16 := (Memref.whole cc0_stg4_0 : Memref sig .tc .vmem S256x512 .bf16).view
/-- Each window's staging buffer at point `t`, and that it is a whole buffer. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S295x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S23x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S23x2701 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
/-- The scratch buffers. -/
abbrev scM0_0 : Memref sig .tc .vmem S23x27136 .i32 := Memref.whole cc0_scratch0
abbrev scM0_1 : Memref sig .tc .vmem S23x512 .bf16 := Memref.whole cc0_scratch1
abbrev scM0_2 : Memref sig .tc .vmem S23x512 .i32 := Memref.whole cc0_scratch2
abbrev scM0_3 : Memref sig .tc .vmem S23x512 .i32 := Memref.whole cc0_scratch3
/-- The scratch of unpacked zero points, as a view. -/
abbrev VS0_0 : View sig .tc .vmem S23x27136 .i32 := scM0_0.view

/-- What the region holds besides the windows: the four scratch buffers at some contents, and the random state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.RunB.lean ====
/-
  The run of the kernel's body at every grid point but the first, where the zero points are already unpacked.
-/
module

public import proofs.«01_k».proof.Proof.Shared

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3284000 in
/-- The body at a later grid point, which only reads the unpacked zero points: the pieces it writes into the result's buffer and into
    the four scratch buffers (the last written first), with the proof that from whole buffers — the inputs' at given
    contents, the result's and three of the scratch buffers at any, the scratch of unpacked zero points at given
    contents — the body runs to its end, the inputs' buffers as they were and the others with these pieces written. -/
noncomputable def kernelRun0_B (c : Dev nD) (i : grid0.Coords) (arg1 : Memref sig .tc .vmem S256x3072 .bf16) (harg1 : arg1.IsWhole) (arg2 : Memref sig .tc .vmem S295x512 .i32) (harg2 : arg2.IsWhole) (arg3 : Memref sig .tc .vmem S23x512 .bf16) (harg3 : arg3.IsWhole) (arg4 : Memref sig .tc .vmem S23x2701 .i32) (harg4 : arg4.IsWhole) (arg5 : Memref sig .tc .vmem S256x512 .bf16) (harg5 : arg5.IsWhole) (arg6 : Memref sig .tc .vmem S23x27136 .i32) (harg6 : arg6.IsWhole) (arg7 : Memref sig .tc .vmem S23x512 .bf16) (harg7 : arg7.IsWhole) (arg8 : Memref sig .tc .vmem S23x512 .i32) (harg8 : arg8.IsWhole) (arg9 : Memref sig .tc .vmem S23x512 .i32) (harg9 : arg9.IsWhole) (hc0 : ¬cond0_0 i)
    (x0 : Vec F S256x3072 .bf16) (x1 : Vec F S295x512 .i32) (x2 : Vec F S23x512 .bf16) (x3 : Vec F S23x2701 .i32) (xs0 : Vec F S23x27136 .i32) :
    Σ' (L4 : List (View.Piece (Elt F) S256x512 .bf16)), Σ' (LS0 : List (View.Piece (Elt F) S23x27136 .i32)), Σ' (LT1 : List (View.Piece (Elt F) S23x512 .bf16)), Σ' (LT2 : List (View.Piece (Elt F) S23x512 .i32)), { LT3 : List (View.Piece (Elt F) S23x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LT3)) -∗ K ⟨⟩))
          ⊢ wp frame (wpE (defs₀ (F := F)) Variants.none c none) E (cc0_w3_linear i arg1 harg1 arg2 harg2 arg3 harg3 arg4 harg4 arg5 harg5 arg6 harg6 arg7 harg7 arg8 harg8 arg9 harg9) K } := by
  refine ⟨?_, [], ?_, ?_, ?_, fun E K => ?run⟩
  case run =>
    simp only [cc0_w3_linear_eq_skeleton]; unfold cc0_w3_linear_skel
    simp only [k0_part101_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]; · iexists _; iexact HS1
    isplitl [HS2]; · iexists _; iexact HS2
    iexists _; iexact HS3

end Cert.KernelIdeal.Hand

end
-- ==== Proof.RunA.lean ====
/-
  The run of the kernel's body at the first grid point, where the zero points are unpacked first.
-/
module

public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3424000 in
/-- The body at the first grid point, which unpacks the zero points before anything else: the pieces it writes into the result's buffer and into
    the four scratch buffers (the last written first), with the proof that from whole buffers — the inputs' at given
    contents, the result's and three of the scratch buffers at any, the scratch of unpacked zero points at given
    contents — the body runs to its end, the inputs' buffers as they were and the others with these pieces written. -/
noncomputable def kernelRun0_A (c : Dev nD) (i : grid0.Coords) (arg1 : Memref sig .tc .vmem S256x3072 .bf16) (harg1 : arg1.IsWhole) (arg2 : Memref sig .tc .vmem S295x512 .i32) (harg2 : arg2.IsWhole) (arg3 : Memref sig .tc .vmem S23x512 .bf16) (harg3 : arg3.IsWhole) (arg4 : Memref sig .tc .vmem S23x2701 .i32) (harg4 : arg4.IsWhole) (arg5 : Memref sig .tc .vmem S256x512 .bf16) (harg5 : arg5.IsWhole) (arg6 : Memref sig .tc .vmem S23x27136 .i32) (harg6 : arg6.IsWhole) (arg7 : Memref sig .tc .vmem S23x512 .bf16) (harg7 : arg7.IsWhole) (arg8 : Memref sig .tc .vmem S23x512 .i32) (harg8 : arg8.IsWhole) (arg9 : Memref sig .tc .vmem S23x512 .i32) (harg9 : arg9.IsWhole) (hc0 : cond0_0 i)
    (x0 : Vec F S256x3072 .bf16) (x1 : Vec F S295x512 .i32) (x2 : Vec F S23x512 .bf16) (x3 : Vec F S23x2701 .i32) (xs0 : Vec F S23x27136 .i32) :
    Σ' (L4 : List (View.Piece (Elt F) S256x512 .bf16)), Σ' (LS0 : List (View.Piece (Elt F) S23x27136 .i32)), Σ' (LT1 : List (View.Piece (Elt F) S23x512 .bf16)), Σ' (LT2 : List (View.Piece (Elt F) S23x512 .i32)), { LT3 : List (View.Piece (Elt F) S23x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LT3)) -∗ K ⟨⟩))
          ⊢ wp frame (wpE (defs₀ (F := F)) Variants.none c none) E (cc0_w3_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_w3_linear_eq_skeleton]; unfold cc0_w3_linear_skel
    simp only [k0_part101_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.Body.lean ====
/-
  The kernel's body at a grid point, on whatever the staging and scratch buffers hold: what it leaves in them.
-/
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body at a grid point, on any contents -/

variable (c : Dev nD) (t : Fin cfg0.N)

/-- The pieces the body writes when it unpacks the zero points first (the first grid point). -/
abbrev runA (h0 : t.val % 53 = 0) (X0 : Vec F S256x3072 .bf16) (X1 : Vec F S295x512 .i32) (X2 : Vec F S23x512 .bf16)
    (X3 : Vec F S23x2701 .i32) (XS : Vec F S23x27136 .i32) :=
  kernelRun0_A c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _)
    ((hcond0_0 t).mpr h0) X0 X1 X2 X3 XS
/-- The pieces it writes at every later grid point. -/
abbrev runB (h0 : ¬t.val % 53 = 0) (X0 : Vec F S256x3072 .bf16) (X1 : Vec F S295x512 .i32) (X2 : Vec F S23x512 .bf16)
    (X3 : Vec F S23x2701 .i32) (XS : Vec F S23x27136 .i32) :=
  kernelRun0_B c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _)
    (fun h => h0 ((hcond0_0 t).mp h)) X0 X1 X2 X3 XS

/-- What pieces leave in the result's buffer. -/
abbrev outOf (L : List (View.Piece (Elt F) S256x512 .bf16)) : Vec F S256x512 .bf16 :=
  VO0_4.read (Elt F) (VO0_4.writes (Elt F) VO0_4.junk L)

theorem coverA (h0 : t.val % 53 = 0) (X0 : Vec F S256x3072 .bf16) (X1 : Vec F S295x512 .i32) (X2 : Vec F S23x512 .bf16)
    (X3 : Vec F S23x2701 .i32) (XS : Vec F S23x27136 .i32) (y : S256x512.Idx) : ∃ pc ∈ (runA c t h0 X0 X1 X2 X3 XS).1, y ∈ pc.1.set :=
  View.cover_of_tiledL (runA c t h0 X0 X1 X2 X3 XS).1 S256x512.size (by sl_kernel_rfl) y
theorem coverB (h0 : ¬t.val % 53 = 0) (X0 : Vec F S256x3072 .bf16) (X1 : Vec F S295x512 .i32) (X2 : Vec F S23x512 .bf16)
    (X3 : Vec F S23x2701 .i32) (XS : Vec F S23x27136 .i32) (y : S256x512.Idx) : ∃ pc ∈ (runB c t h0 X0 X1 X2 X3 XS).1, y ∈ pc.1.set :=
  View.cover_of_tiledL (runB c t h0 X0 X1 X2 X3 XS).1 S256x512.size (by sl_kernel_rfl) y

/-- The body at the first grid point: the inputs' buffers keep their contents, the result's holds what the pieces
    leave, and the scratch of unpacked zero points holds its pieces written over some contents. -/
theorem sound_A (h0 : t.val % 53 = 0) (X0 : Vec F S256x3072 .bf16) (X1 : Vec F S295x512 .i32) (X2 : Vec F S23x512 .bf16)
    (X3 : Vec F S23x2701 .i32) (XS : Vec F S23x27136 .i32) (K : PUnit → sProp 𝕄) :
    iprop((owns (c : Thread nD τ) (ms0_0 t) fullShare X0 ∗ owns (c : Thread nD τ) (ms0_1 t) fullShare X1 ∗ owns (c : Thread nD τ) (ms0_2 t) fullShare X2 ∗ owns (c : Thread nD τ) (ms0_3 t) fullShare X3
        ∗ (∃ d, owns (c : Thread nD τ) (ms0_4 t) fullShare d) ∗ owns (c : Thread nD τ) scM0_0 fullShare XS ∗ (∃ d, owns (c : Thread nD τ) scM0_1 fullShare d) ∗ (∃ d, owns (c : Thread nD τ) scM0_2 fullShare d) ∗ (∃ d, owns (c : Thread nD τ) scM0_3 fullShare d))
      ∗ (iprop(owns (c : Thread nD τ) (ms0_0 t) fullShare X0 ∗ owns (c : Thread nD τ) (ms0_1 t) fullShare X1 ∗ owns (c : Thread nD τ) (ms0_2 t) fullShare X2 ∗ owns (c : Thread nD τ) (ms0_3 t) fullShare X3
        ∗ owns (c : Thread nD τ) (ms0_4 t) fullShare (outOf (runA c t h0 X0 X1 X2 X3 XS).1) ∗ (∃ f, owns (c : Thread nD τ) scM0_0 fullShare (VS0_0.read (Elt F) (VS0_0.writes (Elt F) f (runA c t h0 X0 X1 X2 X3 XS).2.1))) ∗ (∃ d, owns (c : Thread nD τ) scM0_1 fullShare d) ∗ (∃ d, owns (c : Thread nD τ) scM0_2 fullShare d) ∗ (∃ d, owns (c : Thread nD τ) scM0_3 fullShare d)) -∗ K ⟨⟩))
      ⊢ wp frame (wpE (defs₀ (F := F)) Variants.none c none) Set.univ (bodyAt0 t) K := by
  unfold bodyAt0
  iintro ⟨⟨H0, H1, H2, H3, H4, HS0, HS1, HS2, HS3⟩, Hk⟩
  iapply ((runA c t h0 X0 X1 X2 X3 XS).2.2.2.2.2 Set.univ K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, ⟨%e4, H4⟩, ⟨%es0, HS0⟩, ⟨%fT1, HS1⟩, ⟨%fT2, HS2⟩, ⟨%fT3, HS3⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverA c t h0 X0 X1 X2 X3 XS)
  isplitl [HS0]
  · iexists es0; unfold owns; iexists _; isplitr
    swap; · iexact HS0
    ipureintro; rfl
  isplitl [HS1]
  · iexists _; unfold owns; iexists _; isplitr
    swap; · iexact HS1
    ipureintro; rfl
  isplitl [HS2]
  · iexists _; unfold owns; iexists _; isplitr
    swap; · iexact HS2
    ipureintro; rfl
  iexists _; unfold owns; iexists _; isplitr
  swap; · iexact HS3
  ipureintro; rfl

/-- The body at a later grid point: the same, the scratch of unpacked zero points only read. -/
theorem sound_B (h0 : ¬t.val % 53 = 0) (X0 : Vec F S256x3072 .bf16) (X1 : Vec F S295x512 .i32) (X2 : Vec F S23x512 .bf16)
    (X3 : Vec F S23x2701 .i32) (XS : Vec F S23x27136 .i32) (K : PUnit → sProp 𝕄) :
    iprop((owns (c : Thread nD τ) (ms0_0 t) fullShare X0 ∗ owns (c : Thread nD τ) (ms0_1 t) fullShare X1 ∗ owns (c : Thread nD τ) (ms0_2 t) fullShare X2 ∗ owns (c : Thread nD τ) (ms0_3 t) fullShare X3
        ∗ (∃ d, owns (c : Thread nD τ) (ms0_4 t) fullShare d) ∗ owns (c : Thread nD τ) scM0_0 fullShare XS ∗ (∃ d, owns (c : Thread nD τ) scM0_1 fullShare d) ∗ (∃ d, owns (c : Thread nD τ) scM0_2 fullShare d) ∗ (∃ d, owns (c : Thread nD τ) scM0_3 fullShare d))
      ∗ (iprop(owns (c : Thread nD τ) (ms0_0 t) fullShare X0 ∗ owns (c : Thread nD τ) (ms0_1 t) fullShare X1 ∗ owns (c : Thread nD τ) (ms0_2 t) fullShare X2 ∗ owns (c : Thread nD τ) (ms0_3 t) fullShare X3
        ∗ owns (c : Thread nD τ) (ms0_4 t) fullShare (outOf (runB c t h0 X0 X1 X2 X3 XS).1) ∗ owns (c : Thread nD τ) scM0_0 fullShare XS ∗ (∃ d, owns (c : Thread nD τ) scM0_1 fullShare d) ∗ (∃ d, owns (c : Thread nD τ) scM0_2 fullShare d) ∗ (∃ d, owns (c : Thread nD τ) scM0_3 fullShare d)) -∗ K ⟨⟩))
      ⊢ wp frame (wpE (defs₀ (F := F)) Variants.none c none) Set.univ (bodyAt0 t) K := by
  unfold bodyAt0
  iintro ⟨⟨H0, H1, H2, H3, H4, HS0, HS1, HS2, HS3⟩, Hk⟩
  iapply ((runB c t h0 X0 X1 X2 X3 XS).2.2.2.2.2 Set.univ K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, ⟨%e4, H4⟩, HS0, ⟨%fT1, HS1⟩, ⟨%fT2, HS2⟩, ⟨%fT3, HS3⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverB c t h0 X0 X1 X2 X3 XS)
  isplitl [HS0]; · iexact HS0
  isplitl [HS1]
  · iexists _; unfold owns; iexists _; isplitr
    swap; · iexact HS1
    ipureintro; rfl
  isplitl [HS2]
  · iexists _; unfold owns; iexists _; isplitr
    swap; · iexact HS2
    ipureintro; rfl
  iexists _; unfold owns; iexists _; isplitr
  swap; · iexact HS3
  ipureintro; rfl

/-- The body table's row at point `t`'s buffers is the body. -/
theorem defs₀_row : defs₀ (F := F) .tc cfg0.body (cfg0.bodyArgs t (cfg0.slots t)) = bodyAt0 t := by
  unfold defs₀; rw [Defs.onTc_tc]

end Cert.KernelIdeal.Hand

end
-- ==== Proof.Frame.lean ====
/-
  The frame of the kernel: the launch of its one region, with nothing said of what the result's buffer or the scratch
  buffers hold. The blocks of the packed weights, the scales and the result overhang their arrays at the last grid
  point, so of their buffers only the part inside the array is stated.
-/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one region: the arrays as it finds them; after the body, each input's buffer at its block
    (filled out past the array's end by zero words) and the result's at `O`; the invariant `Ψ`; full shares. -/
def dats (O : Dev nD → Fin cfg0.N → Vec F S256x512 .bf16) (Ψ : Dev nD → Fin (cfg0.N + 1) → sProp 𝕄) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#32) (iblk m c 1 t)
    | ⟨2, _⟩ => win0_2.fill (grid0.coords t) (fun _ => Scalar.ofBits .bf16 0#16) (iblk m c 2 t)
    | ⟨3, _⟩ => iblk m c 3 t
    | ⟨4, _⟩ => O c t
  Φ := Ψ c
  q _ := fullShare
  owed _ := 0

section
variable (O : Dev nD → Fin cfg0.N → Vec F S256x512 .bf16) (Ψ : Dev nD → Fin (cfg0.N + 1) → sProp (MT nD τ sig Unit (Elt F) ℕ (UR sig nD τ) ℕ)) (c : Dev nD) (t : Fin cfg0.N)

theorem A_eq (w : Fin cfg0.W) : (dats m O Ψ 0 c).A w = V m c (Pipeline.arrRef spec0 w) := by dsimp only [dats]
theorem Φ_eq (n : Fin (cfg0.N + 1)) : (dats m O Ψ 0 c).Φ n = Ψ c n := by dsimp only [dats]
theorem after0 : (dats m O Ψ 0 c).after 0 t = iblk m c 0 t := by dsimp only [dats]
theorem after1 : (dats m O Ψ 0 c).after 1 t = win0_1.fill (grid0.coords t) (fun _ => 0#32) (iblk m c 1 t) := by dsimp only [dats]
theorem after2 : (dats m O Ψ 0 c).after 2 t = win0_2.fill (grid0.coords t) (fun _ => Scalar.ofBits .bf16 0#16) (iblk m c 2 t) := by dsimp only [dats]
theorem after3 : (dats m O Ψ 0 c).after 3 t = iblk m c 3 t := by dsimp only [dats]
theorem after4 : (dats m O Ψ 0 c).after 4 t = O c t := by dsimp only [dats]

/-- What the body finds in the inputs' buffers. -/
theorem before0 (d) : (dats m O Ψ 0 c).before 0 t d = iblk m c 0 t :=
  before0_0_of m (dats m O Ψ 0 c) (A_eq m O Ψ c 0) (after0 m O Ψ c) t d
theorem before1 (d) : (dats m O Ψ 0 c).before 1 t d = win0_1.fill (grid0.coords t) d (iblk m c 1 t) := by
  unfold Dat.before; rw [if_pos (fetch0_1 t)]; unfold Dat.fetched Dat.blockOf iblk; rw [A_eq]
theorem before2 (d) : (dats m O Ψ 0 c).before 2 t d = win0_2.fill (grid0.coords t) d (iblk m c 2 t) := by
  unfold Dat.before; rw [if_pos (fetch0_2 t)]; unfold Dat.fetched Dat.blockOf iblk; rw [A_eq]
theorem before3 (d) : (dats m O Ψ 0 c).before 3 t d = iblk m c 3 t :=
  before0_3_of m (dats m O Ψ 0 c) (A_eq m O Ψ c 3) (after3 m O Ψ c) t d
theorem cut1 : win0_1.cut (grid0.coords t) ((dats m O Ψ 0 c).after 1 t) = iblk m c 1 t := by
  rw [after1]; exact win0_1.cut_fill _ _ _
theorem cut2 : win0_2.cut (grid0.coords t) ((dats m O Ψ 0 c).after 2 t) = iblk m c 2 t := by
  rw [after2]; exact win0_2.cut_fill _ _ _
end

/-! ## The body's obligation with the result forgotten -/

/-- The windows of which nothing is said after the body: the result's. -/
def forgotten : Fin cfg0.W → Bool := fun w => w.val == 4

/-- The data of the frame: nothing of the result, any scratch. -/
abbrev datsF : (p : Fin 1) → (c : Dev nD) → Dat τ (Elt F) Unit ℕ (UR sig nD τ) ℕ (cfgs p) c :=
  dats m (fun _ _ _ => Scalar.ofBits .bf16 0#16) (fun c _ => Pipeline.ΦA spec0 c)

set_option maxHeartbeats 1600000 in
theorem body_forget (c : Dev nD) : BodyObligationLoose (datsF (F := F) m 0 c) (defs₀ (F := F)) Variants.none () Set.univ forgotten := fun t => by
  rw [bigSep_W0, bigSep_W0, defs₀_row, show forgotten 0 = false from rfl, show forgotten 1 = false from rfl,
    show forgotten 2 = false from rfl, show forgotten 3 = false from rfl, show forgotten 4 = true from rfl]
  simp only
  rw [show (datsF m 0 c).owesAt () t.succ = (datsF m 0 c).owesAt () t.castSucc from rfl]
  rw [Φ_eq, Φ_eq, PhiA0_eq]
  iintro ⟨⟨⟨⟨%xs, HS0⟩, HS1, HS2, HS3⟩, Hg⟩, Ho, ⟨%d0, H0⟩, ⟨%d1, H1⟩, ⟨%d2, H2⟩, ⟨%d3, H3⟩, H4⟩
  rw [before0, before1, before2, before3]
  by_cases h0 : t.val % 53 = 0
  · iapply (sound_A c t h0 (iblk m c 0 t) (win0_1.fill (grid0.coords t) d1 (iblk m c 1 t)) (win0_2.fill (grid0.coords t) d2 (iblk m c 2 t)) (iblk m c 3 t) xs _)
    isplitl [H0 H1 H2 H3 H4 HS0 HS1 HS2 HS3]
    · isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iexact HS3
    iintro ⟨H0, H1, H2, H3, H4, ⟨%f, HS0⟩, HS1, HS2, HS3⟩
    isplitl [HS0 HS1 HS2 HS3 Hg]
    · isplitl [HS0 HS1 HS2 HS3]
      · isplitl [HS0]; · iexists _; iexact HS0
        isplitl [HS1]; · iexact HS1
        isplitl [HS2]; · iexact HS2
        iexact HS3
      iexact Hg
    isplitl [Ho]; · iexact Ho
    isplitl [H0]
    · rw [after0]; iexact H0
    isplitl [H1]
    · iexists d1
      change _ ⊢ owns (c : Thread nD τ) (ms0_1 t) fullShare (win0_1.fill (grid0.coords t) d1 (win0_1.cut (grid0.coords t) ((datsF m 0 c).after 1 t)))
      rw [cut1]; try iexact H1
    isplitl [H2]
    · iexists d2
      change _ ⊢ owns (c : Thread nD τ) (ms0_2 t) fullShare (win0_2.fill (grid0.coords t) d2 (win0_2.cut (grid0.coords t) ((datsF m 0 c).after 2 t)))
      rw [cut2]; try iexact H2
    isplitl [H3]
    · rw [after3]; iexact H3
    iexists _; iexact H4
  · iapply (sound_B c t h0 (iblk m c 0 t) (win0_1.fill (grid0.coords t) d1 (iblk m c 1 t)) (win0_2.fill (grid0.coords t) d2 (iblk m c 2 t)) (iblk m c 3 t) xs _)
    isplitl [H0 H1 H2 H3 H4 HS0 HS1 HS2 HS3]
    · isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iexact HS3
    iintro ⟨H0, H1, H2, H3, H4, HS0, HS1, HS2, HS3⟩
    isplitl [HS0 HS1 HS2 HS3 Hg]
    · isplitl [HS0 HS1 HS2 HS3]
      · isplitl [HS0]; · iexists _; iexact HS0
        isplitl [HS1]; · iexact HS1
        isplitl [HS2]; · iexact HS2
        iexact HS3
      iexact Hg
    isplitl [Ho]; · iexact Ho
    isplitl [H0]
    · rw [after0]; iexact H0
    isplitl [H1]
    · iexists d1
      change _ ⊢ owns (c : Thread nD τ) (ms0_1 t) fullShare (win0_1.fill (grid0.coords t) d1 (win0_1.cut (grid0.coords t) ((datsF m 0 c).after 1 t)))
      rw [cut1]; try iexact H1
    isplitl [H2]
    · iexists d2
      change _ ⊢ owns (c : Thread nD τ) (ms0_2 t) fullShare (win0_2.fill (grid0.coords t) d2 (win0_2.cut (grid0.coords t) ((datsF m 0 c).after 2 t)))
      rw [cut2]; try iexact H2
    isplitl [H3]
    · rw [after3]; iexact H3
    iexists _; iexact H4

/-! ## The frame -/

/-- The lines after the region write the final result only. -/
theorem sfx_writes : ∀ ops ∈ ([hostOps1] : List (List (HloOp τ sig (Elt F)))), ∀ op ∈ ops, ∀ b : Ref sig .tc,
    Proc.devRef .tc b ∈ op.writes → b ∈ ({main_v7} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb ⊢
  exact Proc.devRef_injective _ hb

set_option backward.isDefEq.respectTransparency.types false in
set_option maxHeartbeats 800000 in
theorem run_forget : θ_run defs (onTc (τ := τ) (main (F := F))) (s₀ m ρ) (fun r =>
    (Pipeline.RDat.FramePostR cfg0 (fun c => (datsF m 0 c).toRForget forgotten) {main_v7} (fun c b => V0 m c (Proc.devRef .tc b))) r ∧ r.2.sem = fun _ => 0) :=
  Pipeline.θ_run_frame_around_T_track_forget (Q' := _) cfgs (datsF m) (0 : Fin 1) launch0 defs₀ Variants.none forgotten {main_v7} m ρ main
    (hbody := fun c => body_forget m c) (hshare := fun c => (datsF m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m _ _) (hin := fun c => .rfl) (hout := fun c => .rfl)

/-- The kernel runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      (h.1.arr_in c 1 rfl).trans (V_main_arg1 m c),
      (h.1.arr_in c 2 rfl).trans (V_main_arg2 m c),
      (h.1.arr_in c 3 rfl).trans (V_main_arg3 m c)⟩, h.2⟩) (run_forget m ρ)

end Cert.KernelIdeal.Hand

end
-- ==== Proof.Same.lean ====
/- The two printed programs are one text, so the frame of the one is the frame of the other. -/
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Proof

open Idealize.ShloMosaic Idealize.SL.Sem

theorem main_same : (@Cert.Kernel.main Bits _ Cert.Kernel.Gen.facts) = (@Cert.KernelIdeal.main Bits _ Cert.KernelIdeal.Gen.facts) := by
  sl_kernel_rfl

theorem defs_same : (@Cert.Kernel.defs Bits _ Cert.Kernel.Gen.facts) = (@Cert.KernelIdeal.defs Bits _ Cert.KernelIdeal.Gen.facts) := by
  sl_kernel_rfl

end Cert.Proof

end
-- ==== Proof.Spelled.lean ====
/-
  The block the kernel's body computes, as one expression of what it loads: the words spread over two halves, the
  scaled pieces of sixteen rows, the tiles of sixteen pieces, and the twelve products with the columns of x.
-/
module

public import proofs.«01_k».proof.Proof.Shared

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The words -/

/-- A word with its bits from the fifteenth up moved one place up: the low half keeps fields 0 to 4, the high half
    starts at field 5. -/
def spread (v : IVec S8x512 32) : IVec S8x512 32 := addi v (andi v (broadcast S8x512 4294934528#32))

/-- Eight rows of words; the last block has seven, and a row of zeros. -/
def rows (W : Fin 36 → IVec S8x512 32) (WL : IVec S7x512 32) (b : ℕ) : IVec S8x512 32 :=
  if h : b < 36 then W ⟨b, h⟩ else concatenate S8x512 0 [⟨S7x512, WL⟩, ⟨S1x512, broadcast S1x512 0#32⟩] concatenates_S7x512_S1x512_S8x512_d0

/-- The words moved down by six bits for every two fields. -/
def moved (v : IVec S8x512 32) (t : ℕ) : IVec S8x512 32 :=
  if t / 2 = 0 then v else shrsi v (broadcast S8x512 (BitVec.ofNat 32 (6 * (t / 2))))

/-- Two small floats a word: 128 + field at an even field, 16 + field at an odd one. -/
def coded (v : IVec S8x512 32) (t : ℕ) : IVec S8x512 32 :=
  if t % 2 = 0 then ori (andi (moved v t) (broadcast S8x512 458759#32)) (broadcast S8x512 1124090624#32)
  else ori (andi (moved v t) (broadcast S8x512 3670072#32)) (broadcast S8x512 1098924416#32)

/-- The words' halves as floats. -/
def halves (v : IVec S8x512 32) : FVec F S16x512 .bf16 := bitcastToFloat .bf16 (bitcast S16x512 16 v bitcasts_S8x512_w32_S16x512_w16)

/-- A row of words, repeated, as floats. -/
def rowHalves (z : IVec S1x512 32) : FVec F S16x512 .bf16 :=
  halves (broadcastTo S8x512 (shapeCast S1x512 z shapeCasts_S1x512_S1x512) broadcasts_S1x512_S8x512)

/-- A row of scales, repeated. -/
def rowScales (s : FVec F S1x512 .bf16) : FVec F S16x512 .bf16 :=
  broadcastTo S16x512 (shapeCast S1x512 s shapeCasts_S1x512_S1x512) broadcasts_S1x512_S16x512

/-! ## A piece -/

/-- The first group a block of eighty rows meets, and the last. -/
def gLo (b : ℕ) : Fin 23 := ⟨min (80 * b / 128) 22, by omega⟩
def gHi (b : ℕ) : Fin 23 := ⟨min ((80 * b + 79) / 128) 22, by omega⟩
/-- The first row of the piece in the last group. -/
def split (b t : ℕ) : ℕ := (128 * ((80 * b + 79) / 128) - 80 * b - t + 4) / 5

/-- One of two rows of a piece's sixteen, by the group the row lies in. -/
def pick {α : Type} (b t : ℕ) (x : Fin 23 → S16x512.Idx → α) : S16x512.Idx → α :=
  if (gHi b).val = (gLo b).val then x (gLo b)
  else select (cmpi .sge (iota Kind.tc S16x512 16 [0] iota_S16x512_d0_w16) (broadcast S16x512 (BitVec.ofNat 16 (split b t)))) (x (gHi b)) (x (gLo b))

/-- Piece `5b + t`: (fields − zero points) × scales over block `b` of words, at fields `t` and `t + 5`. -/
def piece (W : Fin 36 → IVec S8x512 32) (WL : IVec S7x512 32) (Z128 Z16 : Fin 23 → IVec S1x512 32) (S : Fin 23 → FVec F S1x512 .bf16) (n : ℕ) :
    FVec F S16x512 .bf16 :=
  mulf (subf (halves (coded (spread (rows W WL (n / 5))) (n % 5)))
      (pick (n / 5) (n % 5) fun g => rowHalves (if n % 5 % 2 = 0 then Z128 g else Z16 g)))
    (pick (n / 5) (n % 5) fun g => rowScales (S g))

/-! ## The tiles and the sum -/

/-- Sixteen pieces, one under another. -/
def tile (p : ℕ → FVec F S16x512 .bf16) : FVec F S256x512 .bf16 :=
  concatenate S256x512 0 [⟨S16x512, p 0⟩, ⟨S16x512, p 1⟩, ⟨S16x512, p 2⟩, ⟨S16x512, p 3⟩, ⟨S16x512, p 4⟩, ⟨S16x512, p 5⟩, ⟨S16x512, p 6⟩, ⟨S16x512, p 7⟩, ⟨S16x512, p 8⟩, ⟨S16x512, p 9⟩, ⟨S16x512, p 10⟩, ⟨S16x512, p 11⟩, ⟨S16x512, p 12⟩, ⟨S16x512, p 13⟩, ⟨S16x512, p 14⟩, ⟨S16x512, p 15⟩]
    concatenates_S16x512_S16x512_S16x512_S16x512_S16x512_S16x512_S16x512_S16x512_S16x512_S16x512_S16x512_S16x512_S16x512_S16x512_S16x512_S16x512_S256x512_d0

/-- Nine pieces, one under another. -/
def tileLast (p : ℕ → FVec F S16x512 .bf16) : FVec F S144x512 .bf16 :=
  concatenate S144x512 0 [⟨S16x512, p 0⟩, ⟨S16x512, p 1⟩, ⟨S16x512, p 2⟩, ⟨S16x512, p 3⟩, ⟨S16x512, p 4⟩, ⟨S16x512, p 5⟩, ⟨S16x512, p 6⟩, ⟨S16x512, p 7⟩, ⟨S16x512, p 8⟩]
    concatenates_S16x512_S16x512_S16x512_S16x512_S16x512_S16x512_S16x512_S16x512_S16x512_S144x512_d0

/-- The product of columns of x with a tile. -/
def dotTile (x : FVec F S256x256 .bf16) (w : FVec F S256x512 .bf16) : FVec F S256x512 .f32 :=
  matmul dot_S256x256_S256x512_S256x512_1_0_0_1_n_n none (shapeCast S256x256 x shapeCasts_S256x256_S256x256) w (constant S256x512 .f32 0x00000000#32)

/-- The sum of the products of the first `k` tiles. -/
def accum (X : ℕ → FVec F S256x256 .bf16) (p : ℕ → FVec F S16x512 .bf16) : ℕ → FVec F S256x512 .f32
  | 0 => broadcast S256x512 (Scalar.ofBits .f32 0x00000000#32)
  | k + 1 => addf (accum X p k) (dotTile (X k) (tile fun e => p (16 * k + e)))

/-- The block the body stores. -/
def block (X : ℕ → FVec F S256x256 .bf16) (XL : FVec F S256x144 .bf16) (p : ℕ → FVec F S16x512 .bf16) : FVec F S256x512 .bf16 :=
  truncf .bf16 (addf (accum X p 11)
    (matmul dot_S256x144_S144x512_S256x512_1_0_0_1_n_n none (shapeCast S256x144 XL shapeCasts_S256x144_S256x144) (tileLast fun e => p (176 + e))
      (constant S256x512 .f32 0x00000000#32))) bitsLt_bf16_f32

end Cert.KernelIdeal.Hand

end
-- ==== Proof.Eqs.lean ====
/-
  What the body's run stores is the expression of what it loads: the block of the result, and at the first point
  the ten pieces of the scratch of unpacked zero points.
-/
module

public import proofs.«01_k».proof.Proof.Body
public import proofs.«01_k».proof.Proof.Spelled

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The loads -/

theorem inb_x (k : ℕ) : ∀ a, (![0, 256 * min k 10] : Fin 2 → ℕ) a + S256x256.size a ≤ S256x3072.size a := by
  intro a; fin_cases a
  · show 0 + 256 ≤ 256; omega
  · show 256 * min k 10 + 256 ≤ 3072; omega
theorem inb_w (b : Fin 36) : ∀ a, (![8 * b.val, 0] : Fin 2 → ℕ) a + S8x512.size a ≤ S295x512.size a := by
  intro a; fin_cases a
  · show 8 * b.val + 8 ≤ 295; omega
  · show 0 + 512 ≤ 512; omega
theorem inb_g (g : Fin 23) : ∀ a, (![g.val, 0] : Fin 2 → ℕ) a + S1x512.size a ≤ S23x512.size a := by
  intro a; fin_cases a
  · show g.val + 1 ≤ 23; omega
  · show 0 + 512 ≤ 512; omega

/-- The unpacked zero points as words of two floats 128 + zero point. -/
def zeros128 (Z : IVec S23x512 32) : IVec S23x512 32 :=
  shapeCast S23x512 (ori Z (broadcast S23x512 1124090624#32)) shapeCasts_S23x512_S23x512
/-- The unpacked zero points as words of two floats 16 + zero point. -/
def zeros16 (Z : IVec S23x512 32) : IVec S23x512 32 :=
  shapeCast S23x512 (ori (shli Z (broadcast S23x512 3#32)) (broadcast S23x512 1098924416#32)) shapeCasts_S23x512_S23x512

/-- The block of the result, from the buffers of x, of the words, of the scales, and the unpacked zero points `Z`. -/
def stored (arg1 : Memref sig .tc .vmem S256x3072 .bf16) (harg1 : arg1.IsWhole) (arg2 : Memref sig .tc .vmem S295x512 .i32) (harg2 : arg2.IsWhole) (arg3 : Memref sig .tc .vmem S23x512 .bf16) (harg3 : arg3.IsWhole) (x0 : Vec F S256x3072 .bf16) (x1 : Vec F S295x512 .i32) (x2 : Vec F S23x512 .bf16)
    (arg7 : Memref sig .tc .vmem S23x512 .bf16) (arg8 : Memref sig .tc .vmem S23x512 .i32) (arg9 : Memref sig .tc .vmem S23x512 .i32)
    (Z : IVec S23x512 32) : FVec F S256x512 .bf16 :=
  block (fun k => View.readAt (Elt F) arg1.view (Rect.unit (s := S256x3072) ![0, 256 * min k 10] S256x256.size (inb_x k)).toLoadRect (harg1.unread x0))
    (View.readAt (Elt F) arg1.view (Rect.unit (s := S256x3072) ![0, 2816] S256x144.size inb_S256x3072_S256x144_0_2816).toLoadRect (harg1.unread x0))
    (piece (fun b => View.readAt (Elt F) arg2.view (Rect.unit (s := S295x512) ![8 * b.val, 0] S8x512.size (inb_w b)).toLoadRect (harg2.unread x1))
      (View.readAt (Elt F) arg2.view (Rect.unit (s := S295x512) ![288, 0] S7x512.size inb_S295x512_S7x512_288_0).toLoadRect (harg2.unread x1))
      (fun g => arg8.view.readCov (Val := Elt F) [⟨Rect.unit (s := S23x512) ![0, 0] S23x512.size inb_S23x512_S23x512_0_0, zeros128 Z⟩] (Rect.unit (s := S23x512) ![g.val, 0] S1x512.size (inb_g g)).toLoadRect)
      (fun g => arg9.view.readCov (Val := Elt F) [⟨Rect.unit (s := S23x512) ![0, 0] S23x512.size inb_S23x512_S23x512_0_0, zeros16 Z⟩] (Rect.unit (s := S23x512) ![g.val, 0] S1x512.size (inb_g g)).toLoadRect)
      (fun g => arg7.view.readCov (Val := Elt F) [⟨Rect.unit (s := S23x512) ![0, 0] S23x512.size inb_S23x512_S23x512_0_0,
          shapeCast S23x512 (View.readAt (Elt F) arg3.view (Rect.unit (s := S23x512) ![0, 0] S23x512.size inb_S23x512_S23x512_0_0).toLoadRect (harg3.unread x2)) shapeCasts_S23x512_S23x512⟩]
          (Rect.unit (s := S23x512) ![g.val, 0] S1x512.size (inb_g g)).toLoadRect))

/-- Field `j` of the packed zero points, in both halves of a word. -/
def unpacked (j : ℕ) (v : IVec S23x2701 32) : IVec S23x2701 32 :=
  shapeCast S23x2701 (muli (andi (shrsi v (broadcast S23x2701 (BitVec.ofNat 32 (3 * j)))) (broadcast S23x2701 7#32)) (broadcast S23x2701 65537#32)) shapeCasts_S23x2701_S23x2701

/-! ## The equations -/

theorem run_B (c : Dev nD) (i : grid0.Coords) (arg1 : Memref sig .tc .vmem S256x3072 .bf16) (harg1 : arg1.IsWhole) (arg2 : Memref sig .tc .vmem S295x512 .i32) (harg2 : arg2.IsWhole) (arg3 : Memref sig .tc .vmem S23x512 .bf16) (harg3 : arg3.IsWhole) (arg4 : Memref sig .tc .vmem S23x2701 .i32) (harg4 : arg4.IsWhole) (arg5 : Memref sig .tc .vmem S256x512 .bf16) (harg5 : arg5.IsWhole) (arg6 : Memref sig .tc .vmem S23x27136 .i32) (harg6 : arg6.IsWhole) (arg7 : Memref sig .tc .vmem S23x512 .bf16) (harg7 : arg7.IsWhole) (arg8 : Memref sig .tc .vmem S23x512 .i32) (harg8 : arg8.IsWhole) (arg9 : Memref sig .tc .vmem S23x512 .i32) (harg9 : arg9.IsWhole) (hc0 : ¬cond0_0 i) (x0 : Vec F S256x3072 .bf16) (x1 : Vec F S295x512 .i32) (x2 : Vec F S23x512 .bf16) (x3 : Vec F S23x2701 .i32) (xs0 : Vec F S23x27136 .i32) :
    (kernelRun0_B (F := F) c i arg1 harg1 arg2 harg2 arg3 harg3 arg4 harg4 arg5 harg5 arg6 harg6 arg7 harg7 arg8 harg8 arg9 harg9 hc0 x0 x1 x2 x3 xs0).1
      = [⟨Rect.unit (s := S256x512) ![0, 0] ![256, 512] inb_S256x512_S256x512_0_0, stored arg1 harg1 arg2 harg2 arg3 harg3 x0 x1 x2 arg7 arg8 arg9
          (View.readAt (Elt F) arg6.view (Rect.unit (s := S23x27136) (k0_off1 i) S23x512.size (k0_off1_inb i)).toLoadRect (harg6.unread xs0))⟩] := by
  sl_kernel_rfl

/-- The packed zero points, as the body loads them. -/
def zpOf (arg4 : Memref sig .tc .vmem S23x2701 .i32) (harg4 : arg4.IsWhole) (x3 : Vec F S23x2701 .i32) : IVec S23x2701 32 :=
  View.readAt (Elt F) arg4.view (Rect.unit (s := S23x2701) ![0, 0] S23x2701.size inb_S23x2701_S23x2701_0_0).toLoadRect (harg4.unread x3)

theorem inb_f (j : Fin 10) : ∀ a, (![0, 2701 * j.val] : Fin 2 → ℕ) a + S23x2701.size a ≤ S23x27136.size a := by
  intro a; fin_cases a
  · show 0 + 23 ≤ 23; omega
  · show 2701 * j.val + 2701 ≤ 27136; omega

/-- The piece of the scratch that field `j` fills. -/
def fieldPiece (v : IVec S23x2701 32) (j : Fin 10) : View.Piece (Elt F) S23x27136 .i32 :=
  ⟨Rect.unit (s := S23x27136) ![0, 2701 * j.val] S23x2701.size (inb_f j), unpacked j.val v⟩

/-- The scratch's ten pieces, the last first. -/
def fieldPieces (v : IVec S23x2701 32) : List (View.Piece (Elt F) S23x27136 .i32) :=
  [fieldPiece v 9, fieldPiece v 8, fieldPiece v 7, fieldPiece v 6, fieldPiece v 5, fieldPiece v 4, fieldPiece v 3, fieldPiece v 2, fieldPiece v 1, fieldPiece v 0]

theorem run_A_scratch (c : Dev nD) (i : grid0.Coords) (arg1 : Memref sig .tc .vmem S256x3072 .bf16) (harg1 : arg1.IsWhole) (arg2 : Memref sig .tc .vmem S295x512 .i32) (harg2 : arg2.IsWhole) (arg3 : Memref sig .tc .vmem S23x512 .bf16) (harg3 : arg3.IsWhole) (arg4 : Memref sig .tc .vmem S23x2701 .i32) (harg4 : arg4.IsWhole) (arg5 : Memref sig .tc .vmem S256x512 .bf16) (harg5 : arg5.IsWhole) (arg6 : Memref sig .tc .vmem S23x27136 .i32) (harg6 : arg6.IsWhole) (arg7 : Memref sig .tc .vmem S23x512 .bf16) (harg7 : arg7.IsWhole) (arg8 : Memref sig .tc .vmem S23x512 .i32) (harg8 : arg8.IsWhole) (arg9 : Memref sig .tc .vmem S23x512 .i32) (harg9 : arg9.IsWhole) (hc0 : cond0_0 i) (x0 : Vec F S256x3072 .bf16) (x1 : Vec F S295x512 .i32) (x2 : Vec F S23x512 .bf16) (x3 : Vec F S23x2701 .i32) (xs0 : Vec F S23x27136 .i32) :
    (kernelRun0_A (F := F) c i arg1 harg1 arg2 harg2 arg3 harg3 arg4 harg4 arg5 harg5 arg6 harg6 arg7 harg7 arg8 harg8 arg9 harg9 hc0 x0 x1 x2 x3 xs0).2.1 = fieldPieces (zpOf arg4 harg4 x3) := by
  sl_kernel_rfl

theorem run_A (c : Dev nD) (i : grid0.Coords) (arg1 : Memref sig .tc .vmem S256x3072 .bf16) (harg1 : arg1.IsWhole) (arg2 : Memref sig .tc .vmem S295x512 .i32) (harg2 : arg2.IsWhole) (arg3 : Memref sig .tc .vmem S23x512 .bf16) (harg3 : arg3.IsWhole) (arg4 : Memref sig .tc .vmem S23x2701 .i32) (harg4 : arg4.IsWhole) (arg5 : Memref sig .tc .vmem S256x512 .bf16) (harg5 : arg5.IsWhole) (arg6 : Memref sig .tc .vmem S23x27136 .i32) (harg6 : arg6.IsWhole) (arg7 : Memref sig .tc .vmem S23x512 .bf16) (harg7 : arg7.IsWhole) (arg8 : Memref sig .tc .vmem S23x512 .i32) (harg8 : arg8.IsWhole) (arg9 : Memref sig .tc .vmem S23x512 .i32) (harg9 : arg9.IsWhole) (hc0 : cond0_0 i) (x0 : Vec F S256x3072 .bf16) (x1 : Vec F S295x512 .i32) (x2 : Vec F S23x512 .bf16) (x3 : Vec F S23x2701 .i32) (xs0 : Vec F S23x27136 .i32) :
    (kernelRun0_A (F := F) c i arg1 harg1 arg2 harg2 arg3 harg3 arg4 harg4 arg5 harg5 arg6 harg6 arg7 harg7 arg8 harg8 arg9 harg9 hc0 x0 x1 x2 x3 xs0).1
      = [⟨Rect.unit (s := S256x512) ![0, 0] ![256, 512] inb_S256x512_S256x512_0_0, stored arg1 harg1 arg2 harg2 arg3 harg3 x0 x1 x2 arg7 arg8 arg9
          (View.readAt (Elt F) arg6.view (Rect.unit (s := S23x27136) (k0_off1 i) S23x512.size (k0_off1_inb i)).toLoadRect
            (arg6.view.writes (Elt F) (harg6.unread xs0) (fieldPieces (zpOf arg4 harg4 x3))))⟩] := by
  sl_kernel_rfl

end Cert.KernelIdeal.Hand

end
-- ==== Proof.Words.lean ====
/-
  The bits: a word holds ten fields of three bits; what the kernel's shifts and masks leave in the two halves of a
  word, and the numbers those halves are as small floats.
-/
module

public import Idealize.ShloMosaic.PureOps.Ideal.Laws
public import Idealize.ShloMosaic.Lib.IdealHost

@[expose] public section

noncomputable section

namespace Cert.Words

open Idealize.ShloMosaic

/-- Field `f` of a word: three bits. -/
def fld (c : BitVec 32) (f : ℕ) : BitVec 3 := c.extractLsb' (3 * f) 3

/-- A word with its bits from the fifteenth up moved one place up. -/
def spreadW (c : BitVec 32) : BitVec 32 := c + (c &&& 4294934528#32)

/-- The bits of a word with those from the fifteenth up moved: the addition carries nowhere. -/
theorem spreadW_eq (c : BitVec 32) : spreadW c = (c &&& 32767#32) ||| ((c &&& 4294934528#32) <<< 1) := by
  have h1 : c = (c &&& 32767#32) + (c &&& 4294934528#32) := by
    rw [BitVec.add_eq_or_of_and_eq_zero]
    · rw [← BitVec.and_or_distrib_left, show (32767#32 ||| 4294934528#32) = BitVec.allOnes 32 by decide, BitVec.and_allOnes]
    · rw [show (c &&& 32767#32 &&& (c &&& 4294934528#32)) = (c &&& c &&& (32767#32 &&& 4294934528#32)) by ac_rfl,
        show (32767#32 &&& 4294934528#32) = 0#32 by decide, BitVec.and_zero]
  have h2 : (c &&& 4294934528#32) + (c &&& 4294934528#32) = (c &&& 4294934528#32) <<< 1 := by
    apply BitVec.eq_of_toNat_eq
    rw [BitVec.toNat_add, BitVec.toNat_shiftLeft, Nat.shiftLeft_eq]
    congr 1; omega
  have h3 : (c &&& 32767#32) &&& ((c &&& 4294934528#32) <<< 1) = 0#32 := by
    apply BitVec.eq_of_getLsbD_eq
    intro i hi
    interval_cases i <;> simp
  unfold spreadW
  conv_lhs => lhs; rw [h1]
  rw [BitVec.add_assoc, h2, BitVec.add_eq_or_of_and_eq_zero _ _ h3]

theorem spreadW_lo (c : BitVec 32) (i : ℕ) (hi : i < 15) : (spreadW c).getLsbD i = c.getLsbD i := by
  rw [spreadW_eq]; interval_cases i <;> simp

theorem spreadW_hi (c : BitVec 32) (i : ℕ) (hi : 16 ≤ i) (hi' : i < 32) : (spreadW c).getLsbD i = c.getLsbD (i - 1) := by
  rw [spreadW_eq]; interval_cases i <;> simp

/-- A word moved down by six bits for every two fields. -/
def movedW (v : BitVec 32) (t : ℕ) : BitVec 32 := if t / 2 = 0 then v else v.sshiftRight (6 * (t / 2))

/-- The two small floats of a word at field `t`. -/
def codedW (v : BitVec 32) (t : ℕ) : BitVec 32 :=
  if t % 2 = 0 then (movedW v t &&& 458759#32) ||| 1124090624#32 else (movedW v t &&& 3670072#32) ||| 1098924416#32

/-- The small float 128 + field, or 16 + field at an odd field. -/
def small (t : ℕ) (x : BitVec 3) : BitVec 16 :=
  if t % 2 = 0 then x.setWidth 16 ||| 0x4300#16 else (x.setWidth 16 <<< 3) ||| 0x4180#16

/-- Half `h` of the word at field `t` is the small float of field `t + 5h`. -/
theorem coded_half (c : BitVec 32) (t : ℕ) (ht : t < 5) (h : ℕ) (hh : h < 2) :
    (codedW (spreadW c) t).extractLsb' (16 * h) 16 = small t (fld c (t + 5 * h)) := by
  apply BitVec.eq_of_getLsbD_eq
  intro i hi
  interval_cases t <;> interval_cases h <;> interval_cases i <;>
    simp [codedW, movedW, small, fld, BitVec.getLsbD_sshiftRight, ← BitVec.getLsbD_eq_getElem, spreadW_lo, spreadW_hi]

/-- Half `h` of a word of two equal zero points, coded. -/
theorem zero_half (x : BitVec 3) (t : ℕ) (h : ℕ) (hh : h < 2) :
    (if t % 2 = 0 then x.setWidth 32 * 65537#32 ||| 1124090624#32 else (x.setWidth 32 * 65537#32) <<< 3 ||| 1098924416#32).extractLsb' (16 * h) 16
      = small t x := by
  unfold small
  split <;> interval_cases h <;> revert x <;> decide

/-- The host's field of a word: shifted down and masked. -/
theorem shifted_field (c : BitVec 32) (j : ℕ) (hj : j < 10) : (c.sshiftRight (3 * j)) &&& 7#32 = (fld c j).setWidth 32 := by
  apply BitVec.eq_of_getLsbD_eq
  intro i hi
  interval_cases j <;> interval_cases i <;> simp [fld, BitVec.getElem_sshiftRight]

/-- A three-bit field as a 32-bit integer is its number. -/
theorem toInt_field (x : BitVec 3) : (x.setWidth 32).toInt = (x.toNat : ℤ) := by revert x; decide

theorem small_even (x : BitVec 3) : Ideal.ofBits .bf16 (x.setWidth 16 ||| 0x4300#16) = (((128 : ℝ) + x.toNat : ℝ) : EReal) := by
  obtain ⟨k, hk, rfl⟩ : ∃ k, k < 8 ∧ x = BitVec.ofNat 3 k := ⟨x.toNat, x.isLt, by simp⟩
  interval_cases k <;> simp [Ideal.ofBits, Ideal.ieee, -EReal.coe_mul, -EReal.coe_add] <;> norm_num

theorem small_odd (x : BitVec 3) : Ideal.ofBits .bf16 ((x.setWidth 16 <<< 3) ||| 0x4180#16) = (((16 : ℝ) + x.toNat : ℝ) : EReal) := by
  obtain ⟨k, hk, rfl⟩ : ∃ k, k < 8 ∧ x = BitVec.ofNat 3 k := ⟨x.toNat, x.isLt, by simp⟩
  interval_cases k <;> simp [Ideal.ofBits, Ideal.ieee, -EReal.coe_mul, -EReal.coe_add] <;> norm_num

/-- The difference of two small floats of one base is the difference of the fields. -/
theorem small_sub (t : ℕ) (x z : BitVec 3) :
    Ideal.ofBits .bf16 (small t x) - Ideal.ofBits .bf16 (small t z) = ((x.toNat : ℝ) : EReal) - ((z.toNat : ℝ) : EReal) := by
  unfold small
  split
  · rw [small_even, small_even, ← EReal.coe_sub, ← EReal.coe_sub]; congr 1; ring
  · rw [small_odd, small_odd, ← EReal.coe_sub, ← EReal.coe_sub]; congr 1; ring

end Cert.Words

end
-- ==== Proof.Block.lean ====
/-
  What the block of the result is over the extended reals: at row i and a column, the sum over the 2960 positions of
  the permuted x of x times (field − zero point) × scale, the field, the zero point and the scale those of the
  position's own row of the matrix.
-/
module

public import proofs.«01_k».proof.Proof.Eqs
public import proofs.«01_k».proof.Proof.Words
public import Idealize.ShloMosaic.Lib.MatmulPlain
public import Idealize.ShloMosaic.Lib.BitcastPair
public import Idealize.ShloMosaic.Lib.VecWindow
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Words
open scoped BigOperators

/-! ## The halves of words -/

theorem halves_apply (v : IVec S8x512 32) (r : Fin 16) (n : Fin 512) :
    halves (F := Ideal) v (ix2 r n) = Ideal.ofBits .bf16 ((v (ix2 ⟨r.val / 2, by omega⟩ n)).extractLsb' (16 * (r.val % 2)) 16) := by
  show Ideal.ofBits .bf16 (bitcast S16x512 16 v bitcasts_S8x512_w32_S16x512_w16 (ix2 r n)) = _
  rw [bitcast_32_16]
  have hrow : S16x512.row (ix2 r n) = r.val := rfl
  congr 2
  apply congrArg v
  funext a
  match a with
  | ⟨0, _⟩ => exact Fin.ext (Shape.Bitcasts.srcIdx_row _ _ _ _ _ rfl)
  | ⟨1, _⟩ => exact Fin.ext (Shape.Bitcasts.srcIdx_other _ _ _ _ _ (show ¬ (1 + 2 = 2) by decide))

theorem rowHalves_apply (z : IVec S1x512 32) (r : Fin 16) (n : Fin 512) :
    rowHalves (F := Ideal) z (ix2 r n) = Ideal.ofBits .bf16 ((z (ix2 0 n)).extractLsb' (16 * (r.val % 2)) 16) := by
  unfold rowHalves
  rw [halves_apply, shapeCast_self]
  have e : broadcastTo S8x512 z broadcasts_S1x512_S8x512 (ix2 ⟨r.val / 2, by omega⟩ n) = z (ix2 0 n) := by
    unfold broadcastTo
    apply congrArg z
    funext a
    match a with
    | ⟨0, _⟩ => rfl
    | ⟨1, _⟩ => rfl
  rw [e]

theorem rowScales_apply (s : FVec Ideal S1x512 .bf16) (r : Fin 16) (n : Fin 512) :
    rowScales (F := Ideal) s (ix2 r n) = s (ix2 0 n) := by
  unfold rowScales
  rw [shapeCast_self]
  unfold broadcastTo
  apply congrArg s
  funext a
  match a with
  | ⟨0, _⟩ => rfl
  | ⟨1, _⟩ => rfl

/-! ## The group of a row -/

/-- The group of row `k` of the matrix; the sixteen rows past its end take the last group. -/
def grp (k : ℕ) : Fin 23 := ⟨min (k / 128) 22, by omega⟩

theorem pick_apply {α : Type} (b t : ℕ) (hb : b < 37) (ht : t < 5) (x : Fin 23 → S16x512.Idx → α) (r : Fin 16) (n : Fin 512) :
    pick b t x (ix2 r n) = x (grp (80 * b + 5 * r.val + t)) (ix2 r n) := by
  have hr := r.isLt
  unfold pick
  by_cases h : (gHi b).val = (gLo b).val
  · rw [if_pos h]
    have : gLo b = grp (80 * b + 5 * r.val + t) := by
      apply Fin.ext
      simp only [gHi, gLo, grp] at h ⊢
      omega
    rw [this]
  · rw [if_neg h]
    simp only [gHi, gLo] at h
    have hs : split b t ≤ 16 := by unfold split; omega
    have e : cmpi .sge (iota Kind.tc S16x512 16 [0] iota_S16x512_d0_w16) (broadcast S16x512 (BitVec.ofNat 16 (split b t))) (ix2 r n)
        = BitVec.ofBool (decide (split b t ≤ r.val)) := by
      show BitVec.ofBool ((BitVec.ofNat 16 (split b t)).sle (BitVec.ofNat 16 (0 * 16 + r.val))) = _
      congr 1
      rw [Bool.eq_iff_iff, BitVec.sle_iff_toInt_le, decide_eq_true_iff]
      rw [BitVec.toInt_ofNat', BitVec.toInt_ofNat']
      simp only [Int.bmod_def]
      omega
    show Scalar.select (cmpi .sge (iota Kind.tc S16x512 16 [0] iota_S16x512_d0_w16) (broadcast S16x512 (BitVec.ofNat 16 (split b t))) (ix2 r n))
      (x (gHi b) (ix2 r n)) (x (gLo b) (ix2 r n)) = _
    rw [e]
    by_cases h2 : split b t ≤ r.val
    · have : gHi b = grp (80 * b + 5 * r.val + t) := by
        apply Fin.ext
        simp only [gHi, grp]
        unfold split at h2
        omega
      rw [← this]
      simp [h2, Scalar.select]
    · have : gLo b = grp (80 * b + 5 * r.val + t) := by
        apply Fin.ext
        simp only [gLo, grp]
        unfold split at h2
        omega
      rw [← this]
      simp [h2, Scalar.select]

/-! ## A piece -/

/-- Row `k` of the dequantised matrix at a column: the column's words, zero points and scales given. -/
def entry (w : ℕ → BitVec 32) (z : Fin 23 → BitVec 3) (s : Fin 23 → EReal) (k : ℕ) : EReal :=
  ((((fld (w (k / 10)) (k % 10)).toNat : ℝ) : EReal) - (((z (grp k)).toNat : ℝ) : EReal)) * s (grp k)

theorem coded_apply (v : IVec S8x512 32) (t : ℕ) (ht : t < 5) (j : S8x512.Idx) : coded (spread v) t j = codedW (spreadW (v j)) t := by
  have hm : moved (spread v) t j = movedW (spreadW (v j)) t := by
    unfold moved movedW
    split
    · rfl
    · interval_cases t <;> first | rfl | omega
  unfold coded codedW
  split
  · exact congrArg (fun y => (y &&& 458759#32) ||| 1124090624#32) hm
  · exact congrArg (fun y => (y &&& 3670072#32) ||| 1098924416#32) hm

theorem piece_apply (W : Fin 36 → IVec S8x512 32) (WL : IVec S7x512 32) (Z128 Z16 : Fin 23 → IVec S1x512 32) (S : Fin 23 → FVec Ideal S1x512 .bf16)
    (b t : ℕ) (hb : b < 37) (ht : t < 5) (r : Fin 16) (n : Fin 512) (w : ℕ → BitVec 32) (z : Fin 23 → BitVec 3) (s : Fin 23 → EReal)
    (hw : rows W WL b (ix2 ⟨r.val / 2, by omega⟩ n) = w (8 * b + r.val / 2))
    (hz128 : ∀ g, Z128 g (ix2 0 n) = (z g).setWidth 32 * 65537#32 ||| 1124090624#32)
    (hz16 : ∀ g, Z16 g (ix2 0 n) = ((z g).setWidth 32 * 65537#32) <<< 3 ||| 1098924416#32)
    (hs : ∀ g, S g (ix2 0 n) = s g) :
    piece W WL Z128 Z16 S (5 * b + t) (ix2 r n) = entry w z s (80 * b + 5 * r.val + t) := by
  have hr := r.isLt
  have e1 : (5 * b + t) / 5 = b := by omega
  have e2 : (5 * b + t) % 5 = t := by omega
  unfold piece
  rw [e1, e2]
  show (halves (coded (spread (rows W WL b)) t) (ix2 r n) - pick b t (fun g => rowHalves (if t % 2 = 0 then Z128 g else Z16 g)) (ix2 r n))
    * pick b t (fun g => rowScales (S g)) (ix2 r n) = _
  rw [pick_apply b t hb ht, pick_apply b t hb ht, rowScales_apply, rowHalves_apply, halves_apply, coded_apply _ _ ht, hw, hs,
    coded_half _ _ ht _ (Nat.mod_lt _ (by decide))]
  have e3 : ((if t % 2 = 0 then Z128 (grp (80 * b + 5 * r.val + t)) else Z16 (grp (80 * b + 5 * r.val + t))) (ix2 0 n)).extractLsb' (16 * (r.val % 2)) 16
      = small t (z (grp (80 * b + 5 * r.val + t))) := by
    rw [← zero_half _ t (r.val % 2) (Nat.mod_lt _ (by decide))]
    congr 1
    split
    · exact hz128 _
    · exact hz16 _
  rw [e3, small_sub]
  unfold entry
  have e4 : (80 * b + 5 * r.val + t) / 10 = 8 * b + r.val / 2 := by omega
  have e5 : (80 * b + 5 * r.val + t) % 10 = t + 5 * (r.val % 2) := by omega
  rw [e4, e5]

/-! ## The tiles -/

theorem tile_apply (p : ℕ → FVec Ideal S16x512 .bf16) (e : Fin 256) (n : Fin 512) :
    tile p (ix2 e n) = p (e.val / 16) (ix2 ⟨e.val % 16, Nat.mod_lt _ (by decide)⟩ n) := by
  have h := concatenate_ofFn_apply (t := S256x512) (s₁ := S16x512) 0 (fun i : Fin 16 => p i.val)
    concatenates_S16x512_S16x512_S16x512_S16x512_S16x512_S16x512_S16x512_S16x512_S16x512_S16x512_S16x512_S16x512_S16x512_S16x512_S16x512_S16x512_S256x512_d0
    rfl 16 rfl (ix2 e n) ⟨e.val / 16, by omega⟩ rfl (ix2 ⟨e.val % 16, Nat.mod_lt _ (by decide)⟩ n) rfl (by
      intro b hb
      match b with
      | ⟨0, _⟩ => exact absurd rfl hb
      | ⟨1, _⟩ => rfl)
  exact h

theorem tileLast_apply (p : ℕ → FVec Ideal S16x512 .bf16) (e : Fin 144) (n : Fin 512) :
    tileLast p (ix2 e n) = p (e.val / 16) (ix2 ⟨e.val % 16, Nat.mod_lt _ (by decide)⟩ n) := by
  have h := concatenate_ofFn_apply (t := S144x512) (s₁ := S16x512) 0 (fun i : Fin 9 => p i.val)
    concatenates_S16x512_S16x512_S16x512_S16x512_S16x512_S16x512_S16x512_S16x512_S16x512_S144x512_d0
    rfl 16 rfl (ix2 e n) ⟨e.val / 16, by omega⟩ rfl (ix2 ⟨e.val % 16, Nat.mod_lt _ (by decide)⟩ n) rfl (by
      intro b hb
      match b with
      | ⟨0, _⟩ => exact absurd rfl hb
      | ⟨1, _⟩ => rfl)
  exact h

/-! ## The sum -/

/-- The sums of the first tiles: over the first `256 k` positions. -/
theorem accum_apply (X : ℕ → FVec Ideal S256x256 .bf16) (p : ℕ → FVec Ideal S16x512 .bf16) (i : Fin 256) (n : Fin 512) (x y : ℕ → EReal)
    (k : ℕ) (hk : k ≤ 11) (hX : ∀ k < 11, ∀ e : Fin 256, X k (ix2 i e) = x (256 * k + e.val))
    (hp : ∀ q < 185, ∀ r : Fin 16, p q (ix2 r n) = y (16 * q + r.val)) :
    accum X p k (ix2 i n) = ∑ q ∈ Finset.range (256 * k), x q * y q := by
  induction k with
  | zero =>
    show Ideal.ofBits .f32 0x00000000#32 = _
    rw [Ideal.ofBits_zero_f32]; rfl
  | succ k ih =>
    have ih := ih (by omega)
    show accum X p k (ix2 i n) + dotTile (X k) (tile fun e => p (16 * k + e)) (ix2 i n) = _
    rw [ih, show 256 * (k + 1) = 256 * k + 256 by omega, Finset.sum_range_add]
    congr 1
    unfold dotTile
    rw [shapeCast_self]
    refine (Ideal.matmul_plain_apply (M := 256) (K := 256) (N := 512) none (X k) (tile fun e => p (16 * k + e)) (constant S256x512 .f32 0x00000000#32) i n).trans ?_
    rw [constant_apply, Ideal.ofBits_zero_f32, zero_add, Finset.sum_range]
    refine Finset.sum_congr rfl fun e _ => ?_
    have he := e.isLt
    rw [tile_apply, hX k (by omega), hp _ (by omega)]
    congr 2
    show 16 * (16 * k + e.val / 16) + e.val % 16 = _
    omega

/-- The block at row `i` and column `n`: the sum over the 2960 positions. -/
theorem block_apply (X : ℕ → FVec Ideal S256x256 .bf16) (XL : FVec Ideal S256x144 .bf16) (p : ℕ → FVec Ideal S16x512 .bf16) (i : Fin 256) (n : Fin 512)
    (x y : ℕ → EReal) (hX : ∀ k < 11, ∀ e : Fin 256, X k (ix2 i e) = x (256 * k + e.val))
    (hXL : ∀ e : Fin 144, XL (ix2 i e) = x (2816 + e.val)) (hp : ∀ q < 185, ∀ r : Fin 16, p q (ix2 r n) = y (16 * q + r.val)) :
    block X XL p (ix2 i n) = ∑ q ∈ Finset.range 2960, x q * y q := by
  show accum X p 11 (ix2 i n) + matmul dot_S256x144_S144x512_S256x512_1_0_0_1_n_n none (shapeCast S256x144 XL shapeCasts_S256x144_S256x144)
    (tileLast fun e => p (176 + e)) (constant S256x512 .f32 0x00000000#32) (ix2 i n) = _
  rw [accum_apply X p i n x y 11 le_rfl hX hp, show 2960 = 256 * 11 + 144 by rfl, Finset.sum_range_add]
  congr 1
  rw [shapeCast_self]
  refine (Ideal.matmul_plain_apply (M := 256) (K := 144) (N := 512) none XL (tileLast fun e => p (176 + e)) (constant S256x512 .f32 0x00000000#32) i n).trans ?_
  rw [constant_apply, Ideal.ofBits_zero_f32, zero_add, Finset.sum_range]
  refine Finset.sum_congr rfl fun e _ => ?_
  have he := e.isLt
  rw [tileLast_apply, hXL, hp _ (by omega)]
  congr 2
  show 16 * (176 + e.val / 16) + e.val % 16 = _
  omega

end Cert.KernelIdeal.Hand

end
-- ==== Proof.Stored.lean ====
/-
  The block the body stores, at a row and a column: the sum over the 2960 positions of x times the dequantised row,
  from the contents of the buffers it loads.
-/
module

public import proofs.«01_k».proof.Proof.Eqs
public import proofs.«01_k».proof.Proof.Block

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Words
open scoped BigOperators

/-! ## The loads -/

theorem load_apply {S : Shape} {e : EltTy} {off size : Fin S.rank → ℕ} (arg : Memref sig .tc .vmem S e) (harg : arg.IsWhole)
    (x : Vec Ideal S e) (inb : ∀ a, off a + size a ≤ S.size a) (j : (Rect.unit off size inb).shape.Idx) (k : S.Idx)
    (hk : ∀ a, (k a).val = off a + (j a).val) :
    View.readAt (Elt Ideal) arg.view (Rect.unit off size inb).toLoadRect (harg.unread x) j = x k := by
  rw [View.readAt_unit arg.view _ inb rfl inb, harg.read_unread]
  show x ((Rect.unit off size inb).emb j) = x k
  congr 1
  funext a
  exact Fin.ext (by
    show off a + 1 * (j a).val = (k a).val
    rw [hk a, Nat.one_mul])

theorem cov_apply {S : Shape} {e : EltTy} {off off0 size : Fin S.rank → ℕ} (arg : Memref sig .tc .vmem S e)
    (inb0 : ∀ a, off0 a + S.size a ≤ S.size a) (w : Vec Ideal S e) (inb : ∀ a, off a + size a ≤ S.size a)
    (j : (Rect.unit off size inb).shape.Idx) (k : S.Idx) (hk : ∀ a, (k a).val = off a + (j a).val) :
    arg.view.readCov (Val := Elt Ideal) [⟨Rect.unit off0 S.size inb0, w⟩] (Rect.unit off size inb).toLoadRect j = w k := by
  show View.readAt (Elt Ideal) arg.view (Rect.unit off size inb).toLoadRect _ j = w k
  rw [View.readAt_unit arg.view _ inb rfl inb, View.read_writes_full]
  show w ((Rect.unit off size inb).emb j) = w k
  congr 1
  funext a
  exact Fin.ext (by
    show off a + 1 * (j a).val = (k a).val
    rw [hk a, Nat.one_mul])

/-! ## The block -/

/-- The row of the matrix at a position: a block of eighty rows is stored field by field. -/
def orig (q : ℕ) : ℕ := 80 * (q / 80) + 5 * (q % 16) + q % 80 / 16

theorem rows_apply (W : Fin 36 → IVec S8x512 32) (WL : IVec S7x512 32) (b : ℕ) (hb : b < 37) (r : Fin 8) (n : Fin 512) (w : ℕ → BitVec 32)
    (hW : ∀ (b : Fin 36) (r : Fin 8), W b (ix2 r n) = w (8 * b.val + r.val)) (hWL : ∀ r : Fin 7, WL (ix2 r n) = w (288 + r.val)) (h0 : w 295 = 0#32) :
    rows W WL b (ix2 r n) = w (8 * b + r.val) := by
  have hr := r.isLt
  unfold rows
  by_cases h : b < 36
  · rw [dif_pos h]; exact hW ⟨b, h⟩ r
  · rw [dif_neg h]
    have hb' : b = 36 := by omega
    subst hb'
    by_cases h7 : r.val < 7
    · refine (concatenate_pair_apply_left (t := S8x512) (s₁ := S7x512) (s₂ := S1x512) 0 WL (broadcast S1x512 0#32) concatenates_S7x512_S1x512_S8x512_d0
        (ix2 r n) rfl (ix2 ⟨r.val, h7⟩ n) ?_).trans (hWL ⟨r.val, h7⟩)
      intro a
      match a with
      | ⟨0, _⟩ => rfl
      | ⟨1, _⟩ => rfl
    · have h7' : r.val = 7 := by omega
      refine (concatenate_pair_apply_right (t := S8x512) (s₁ := S7x512) (s₂ := S1x512) 0 WL (broadcast S1x512 0#32) concatenates_S7x512_S1x512_S8x512_d0
        (ix2 r n) rfl rfl (ix2 0 n) ?_ ?_).trans ?_
      · intro a ha
        match a with
        | ⟨0, _⟩ => exact absurd rfl ha
        | ⟨1, _⟩ => rfl
      · show 0 + 7 = r.val
        omega
      · rw [h7', h0]; rfl

theorem stored_apply (arg1 : Memref sig .tc .vmem S256x3072 .bf16) (harg1 : arg1.IsWhole) (arg2 : Memref sig .tc .vmem S295x512 .i32) (harg2 : arg2.IsWhole)
    (arg3 : Memref sig .tc .vmem S23x512 .bf16) (harg3 : arg3.IsWhole) (x0 : Vec Ideal S256x3072 .bf16) (x1 : Vec Ideal S295x512 .i32) (x2 : Vec Ideal S23x512 .bf16)
    (arg7 : Memref sig .tc .vmem S23x512 .bf16) (arg8 : Memref sig .tc .vmem S23x512 .i32) (arg9 : Memref sig .tc .vmem S23x512 .i32)
    (Z : IVec S23x512 32) (i : Fin 256) (n : Fin 512) (x : ℕ → EReal) (w : ℕ → BitVec 32) (z : Fin 23 → BitVec 3) (s : Fin 23 → EReal)
    (hx : ∀ q : Fin 3072, x0 (ix2 i q) = x q.val) (hw : ∀ r : Fin 295, x1 (ix2 r n) = w r.val) (hw0 : w 295 = 0#32)
    (hs : ∀ g : Fin 23, x2 (ix2 g n) = s g) (hz : ∀ g : Fin 23, Z (ix2 g n) = (z g).setWidth 32 * 65537#32) :
    stored arg1 harg1 arg2 harg2 arg3 harg3 x0 x1 x2 arg7 arg8 arg9 Z (ix2 i n) = ∑ q ∈ Finset.range 2960, x q * entry w z s (orig q) := by
  unfold stored
  refine block_apply _ _ _ i n x (fun q => entry w z s (orig q)) ?_ ?_ ?_
  · intro k hk e
    have he := e.isLt
    refine (load_apply arg1 harg1 x0 (inb_x k) (ix2 i e) (ix2 i ⟨256 * k + e.val, by omega⟩) ?_).trans (hx _)
    intro a
    match a with
    | ⟨0, _⟩ => exact (Nat.zero_add _).symm
    | ⟨1, _⟩ => show 256 * k + e.val = 256 * min k 10 + e.val; omega
  · intro e
    have he := e.isLt
    refine (load_apply arg1 harg1 x0 inb_S256x3072_S256x144_0_2816 (ix2 i e) (ix2 i ⟨2816 + e.val, by omega⟩) ?_).trans (hx _)
    intro a
    match a with
    | ⟨0, _⟩ => exact (Nat.zero_add _).symm
    | ⟨1, _⟩ => rfl
  · intro q hq r
    have hr := r.isLt
    have hq5 : q = 5 * (q / 5) + q % 5 := by omega
    have hpos : orig (16 * q + r.val) = 80 * (q / 5) + 5 * r.val + q % 5 := by unfold orig; omega
    rw [hpos]
    conv_lhs => rw [hq5]
    refine piece_apply _ _ _ _ _ (q / 5) (q % 5) (by omega) (Nat.mod_lt _ (by decide)) r n w z s ?_ ?_ ?_ ?_
    · refine rows_apply _ _ (q / 5) (by omega) ⟨r.val / 2, by omega⟩ n w ?_ ?_ hw0
      · intro b r
        have hb := b.isLt
        have hr := r.isLt
        refine (load_apply arg2 harg2 x1 (inb_w b) (ix2 r n) (ix2 ⟨8 * b.val + r.val, by omega⟩ n) ?_).trans (hw _)
        intro a
        match a with
        | ⟨0, _⟩ => rfl
        | ⟨1, _⟩ => exact (Nat.zero_add _).symm
      · intro r
        have hr := r.isLt
        refine (load_apply arg2 harg2 x1 inb_S295x512_S7x512_288_0 (ix2 r n) (ix2 ⟨288 + r.val, by omega⟩ n) ?_).trans (hw _)
        intro a
        match a with
        | ⟨0, _⟩ => rfl
        | ⟨1, _⟩ => exact (Nat.zero_add _).symm
    · intro g
      refine (cov_apply arg8 inb_S23x512_S23x512_0_0 (zeros128 Z) (inb_g g) (ix2 0 n) (ix2 g n) ?_).trans ?_
      · intro a
        match a with
        | ⟨0, _⟩ => rfl
        | ⟨1, _⟩ => exact (Nat.zero_add _).symm
      · unfold zeros128
        rw [shapeCast_self]
        show Z (ix2 g n) ||| _ = _
        rw [hz]; rfl
    · intro g
      refine (cov_apply arg9 inb_S23x512_S23x512_0_0 (zeros16 Z) (inb_g g) (ix2 0 n) (ix2 g n) ?_).trans ?_
      · intro a
        match a with
        | ⟨0, _⟩ => rfl
        | ⟨1, _⟩ => exact (Nat.zero_add _).symm
      · unfold zeros16
        rw [shapeCast_self]
        rw [← hz]; rfl
    · intro g
      refine (cov_apply arg7 inb_S23x512_S23x512_0_0 _ (inb_g g) (ix2 0 n) (ix2 g n) ?_).trans ?_
      · intro a
        match a with
        | ⟨0, _⟩ => rfl
        | ⟨1, _⟩ => exact (Nat.zero_add _).symm
      · refine (congrFun (shapeCast_self (s := S23x512) _ _) (ix2 g n)).trans ?_
        refine (load_apply arg3 harg3 x2 inb_S23x512_S23x512_0_0 (ix2 g n) (ix2 g n) ?_).trans (hs g)
        intro a
        match a with
        | ⟨0, _⟩ => exact (Nat.zero_add _).symm
        | ⟨1, _⟩ => exact (Nat.zero_add _).symm

end Cert.KernelIdeal.Hand

end
-- ==== Proof.Values.lean ====
/-
  The block the body stores at a grid point is the point's block of the result: at the columns inside the array,
  whatever the input blocks hold past the array's end.
-/
module

public import proofs.«01_k».proof.Proof.Frame
public import proofs.«01_k».proof.Proof.Stored

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Words
open scoped BigOperators

/-! ## The result -/

/-- Row `i` of x, in the stored order; zero past its end. -/
def xrow (X : Vec Ideal S256x3072 .bf16) (i : Fin 256) (q : ℕ) : EReal := if h : q < 3072 then X (ix2 i ⟨q, h⟩) else 0
/-- Column `n` of the packed words; zero past its end. -/
def wcol (W : IVec S295x27008 32) (n r : ℕ) : BitVec 32 := if h : r < 295 ∧ n < 27008 then W (ix2 ⟨r, h.1⟩ ⟨n, h.2⟩) else 0#32
/-- Column `n` of the scales; zero past the array's end. -/
def scol (S : Vec Ideal S23x27008 .bf16) (n : ℕ) (g : Fin 23) : EReal := if h : n < 27008 then S (ix2 g ⟨n, h⟩) else 0
/-- Column `n` of the zero points: field `n / 2701` of the packed column `n % 2701`. -/
def zcol (Z : IVec S23x2701 32) (n : ℕ) (g : Fin 23) : BitVec 3 := fld (Z (ix2 g ⟨n % 2701, Nat.mod_lt _ (by decide)⟩)) (n / 2701)
/-- The result at row `i` and column `n`. -/
def resultAt (X : Vec Ideal S256x3072 .bf16) (W : IVec S295x27008 32) (S : Vec Ideal S23x27008 .bf16) (Z : IVec S23x2701 32) (i : Fin 256) (n : ℕ) : EReal :=
  ∑ q ∈ Finset.range 2960, xrow X i q * entry (wcol W n) (zcol Z n) (scol S n) (orig q)

variable (m : (ℓ : Loc nD τ sig) → Buf (Elt Ideal) ℓ) (c : Dev nD) (t : Fin cfg0.N)

/-- The result at row `i` and column `n`, from the arrays as the region finds them. -/
def resultOf (i : Fin 256) (n : ℕ) : EReal := resultAt (V m c main_v5) (V m c main_arg1) (V m c main_arg2) (V m c main_arg3) i n

/-- The block of the result at a grid point. -/
def blockOf : Vec Ideal S256x512 .bf16 := fun j => resultOf m c (j 0) (512 * t.val + (j 1).val)

/-! ## The windows -/

theorem coord_val : (grid0.coords t 0).val = t.val := by
  have ht : t.val < 53 := Nat.lt_of_lt_of_eq t.isLt N_0
  have e0 : (grid0.coords t 0).val = t.val / 1 % 53 := Pipeline.Grid.coords_val t 0 (by decide) rfl
  omega

theorem coord_toNat : (BitVec.ofNat 32 (grid0.coords t 0).val).toNat = t.val := by
  have ht : t.val < 53 := Nat.lt_of_lt_of_eq t.isLt N_0
  rw [coord_val, BitVec.toNat_ofNat]
  omega

/-- The sizes of the part of a block inside the array. -/
theorem clip_extent (b : ℕ) (hb : b < 53) : (Pipeline.Clip.of b 512 27008).extent 512 = min 512 (27008 - 512 * b) := by
  interval_cases b <;> decide

theorem clip_columns (n : ℕ) (hn : n < 512) :
    n < (Pipeline.Clip.of (BitVec.ofNat 32 (grid0.coords t 0).val).toNat 512 27008).extent 512 ↔ 512 * t.val + n < 27008 := by
  have ht : t.val < 53 := Nat.lt_of_lt_of_eq t.isLt N_0
  rw [coord_toNat, clip_extent t.val ht]
  omega

theorem fill1 (d : Vec Ideal S295x512 .i32) (r : Fin 295) (n : Fin 512) (h : 512 * t.val + n.val < 27008) :
    win0_1.fill (grid0.coords t) d (iblk m c 1 t) (ix2 r n) = (V m c main_arg1 : IVec S295x27008 32) (ix2 r ⟨512 * t.val + n.val, h⟩) := by
  have hm : win0_1.moved (grid0.coords t) (ix2 r n) = true := (win0_1.moved_iff _ _).mpr fun a => by
    match a with
    | ⟨0, _⟩ => exact r.isLt
    | ⟨1, _⟩ => exact (clip_columns t n.val n.isLt).mpr h
  unfold Pipeline.Window.fill
  rw [dif_pos hm]
  refine congrArg (V m c main_arg1 : IVec S295x27008 32) (funext fun a => Fin.ext ?_)
  match a with
  | ⟨0, _⟩ => show 0 * 295 + 1 * r.val = r.val; omega
  | ⟨1, _⟩ =>
    show (BitVec.ofNat 32 (grid0.coords t 0).val).toNat * 512 + 1 * n.val = 512 * t.val + n.val
    rw [coord_toNat]; omega

theorem fill2 (d : Vec Ideal S23x512 .bf16) (r : Fin 23) (n : Fin 512) (h : 512 * t.val + n.val < 27008) :
    win0_2.fill (grid0.coords t) d (iblk m c 2 t) (ix2 r n) = (V m c main_arg2 : Vec Ideal S23x27008 .bf16) (ix2 r ⟨512 * t.val + n.val, h⟩) := by
  have hm : win0_2.moved (grid0.coords t) (ix2 r n) = true := (win0_2.moved_iff _ _).mpr fun a => by
    match a with
    | ⟨0, _⟩ => exact r.isLt
    | ⟨1, _⟩ => exact (clip_columns t n.val n.isLt).mpr h
  unfold Pipeline.Window.fill
  rw [dif_pos hm]
  refine congrArg (V m c main_arg2 : Vec Ideal S23x27008 .bf16) (funext fun a => Fin.ext ?_)
  match a with
  | ⟨0, _⟩ => show 0 * 23 + 1 * r.val = r.val; omega
  | ⟨1, _⟩ =>
    show (BitVec.ofNat 32 (grid0.coords t 0).val).toNat * 512 + 1 * n.val = 512 * t.val + n.val
    rw [coord_toNat]; omega

theorem whole0 (i : Fin 256) (q : Fin 3072) : (iblk m c 0 t : Vec Ideal S256x3072 .bf16) (ix2 i q) = (V m c main_v5 : Vec Ideal S256x3072 .bf16) (ix2 i q) := by
  refine congrArg (V m c main_v5 : Vec Ideal S256x3072 .bf16) (funext fun a => Fin.ext ?_)
  match a with
  | ⟨0, _⟩ => show 0 * 256 + 1 * i.val = i.val; omega
  | ⟨1, _⟩ => show 0 * 3072 + 1 * q.val = q.val; omega

theorem whole3 (g : Fin 23) (p : Fin 2701) : (iblk m c 3 t : IVec S23x2701 32) (ix2 g p) = (V m c main_arg3 : IVec S23x2701 32) (ix2 g p) := by
  refine congrArg (V m c main_arg3 : IVec S23x2701 32) (funext fun a => Fin.ext ?_)
  match a with
  | ⟨0, _⟩ => show 0 * 23 + 1 * g.val = g.val; omega
  | ⟨1, _⟩ => show 0 * 2701 + 1 * p.val = p.val; omega

/-- Blocks that agree at the columns inside the array are cut alike. -/
theorem cut4 (x y : Vec Ideal S256x512 .bf16)
    (h : ∀ (i : Fin 256) (n : Fin 512), 512 * t.val + n.val < 27008 → x (ix2 i n) = y (ix2 i n)) :
    win0_4.cut (grid0.coords t) x = win0_4.cut (grid0.coords t) y := by
  funext j
  have h0 : (j 0).val < 256 := (j 0).isLt
  have hj : (j 1).val < (Pipeline.Clip.of (BitVec.ofNat 32 (grid0.coords t 0).val).toNat 512 27008).extent 512 := (j 1).isLt
  have h1 : (j 1).val < 512 := Nat.lt_of_lt_of_le (j 1).isLt (win0_4.xsize_le _ 1)
  have e : win0_4.xinj (grid0.coords t) j = ix2 ⟨(j 0).val, h0⟩ ⟨(j 1).val, h1⟩ := by
    funext a
    match a with
    | ⟨0, _⟩ => rfl
    | ⟨1, _⟩ => rfl
  show x (win0_4.xinj (grid0.coords t) j) = y (win0_4.xinj (grid0.coords t) j)
  rw [e]
  exact h _ _ ((clip_columns t _ h1).mp hj)

/-! ## The scratch of unpacked zero points -/

/-- The scratch's first 27010 columns are the zero points, in both halves of a word. -/
def Unpacked (d : IVec S23x27136 32) : Prop :=
  ∀ (g : Fin 23) (n : Fin 27136), n.val < 27010 → d (ix2 g n) = (zcol (V m c main_arg3) n.val g).setWidth 32 * 65537#32

theorem off1_val : k0_off1 (grid0.coords t) = ![0, 512 * t.val] := by
  have ht : t.val < 53 := Nat.lt_of_lt_of_eq t.isLt N_0
  unfold k0_off1
  funext a
  match a with
  | ⟨0, _⟩ => rfl
  | ⟨1, _⟩ =>
    show (BitVec.ofNat 32 (grid0.coords t 0).val * 512#32).toNat = 512 * t.val
    rw [BitVec.toNat_mul, coord_toNat]
    show t.val * 512 % 2 ^ 32 = _
    omega

theorem read_load {S : Shape} {e : EltTy} {off size : Fin S.rank → ℕ} (v : View sig .tc .vmem S e) (f : v.ty.Contents (Elt Ideal))
    (inb : ∀ a, off a + size a ≤ S.size a) (j : (Rect.unit off size inb).shape.Idx) (k : S.Idx) (hk : ∀ a, (k a).val = off a + (j a).val) :
    View.readAt (Elt Ideal) v (Rect.unit off size inb).toLoadRect f j = v.read (Elt Ideal) f k := by
  rw [View.readAt_unit v _ inb rfl inb]
  show v.read (Elt Ideal) f ((Rect.unit off size inb).emb j) = v.read (Elt Ideal) f k
  congr 1
  funext a
  exact Fin.ext (by
    show off a + 1 * (j a).val = (k a).val
    rw [hk a, Nat.one_mul])

/-- The load of a point's zero points from an unpacked scratch. -/
theorem load_unpacked (v : View sig .tc .vmem S23x27136 .i32) (f : v.ty.Contents (Elt Ideal)) (hf : Unpacked m c (v.read (Elt Ideal) f))
    (g : Fin 23) (n : Fin 512) (h : 512 * t.val + n.val < 27008) :
    View.readAt (Elt Ideal) v (Rect.unit (s := S23x27136) (k0_off1 (grid0.coords t)) S23x512.size (k0_off1_inb (grid0.coords t))).toLoadRect f (ix2 g n)
      = (zcol (V m c main_arg3) (512 * t.val + n.val) g).setWidth 32 * 65537#32 := by
  refine (read_load v f (k0_off1_inb (grid0.coords t)) (ix2 g n) (ix2 g ⟨512 * t.val + n.val, by omega⟩) ?_).trans (hf g _ (by show 512 * t.val + n.val < 27010; omega))
  have e0 : k0_off1 (grid0.coords t) 0 = 0 := congrFun (off1_val t) 0
  have e1 : k0_off1 (grid0.coords t) 1 = 512 * t.val := congrFun (off1_val t) 1
  intro a
  match a with
  | ⟨0, _⟩ => show g.val = k0_off1 (grid0.coords t) 0 + g.val; rw [e0, Nat.zero_add]
  | ⟨1, _⟩ => show 512 * t.val + n.val = k0_off1 (grid0.coords t) 1 + n.val; rw [e1]

theorem unpacked_apply (j : ℕ) (hj : j < 10) (v : IVec S23x2701 32) (i : S23x2701.Idx) :
    unpacked j v i = (fld (v i) j).setWidth 32 * 65537#32 := by
  unfold unpacked
  rw [shapeCast_self]
  show (IntOp.shrsi .vector (v i) (BitVec.ofNat 32 (3 * j)) &&& 7#32) * 65537#32 = _
  rw [← shifted_field (v i) j hj]
  have h : (BitVec.ofNat 32 (3 * j)).toNat = 3 * j := by rw [BitVec.toNat_ofNat]; omega
  unfold IntOp.shrsi
  rw [h, if_pos (by omega)]
  unfold BitVec.sshiftRight'
  rw [h]

/-- The ten pieces unpack the zero points. -/
theorem pieces_unpacked (v : View sig .tc .vmem S23x27136 .i32) (f : v.ty.Contents (Elt Ideal)) (arg4 : Memref sig .tc .vmem S23x2701 .i32) (harg4 : arg4.IsWhole)
    (x3 : Vec Ideal S23x2701 .i32) (h3 : ∀ (g : Fin 23) (p : Fin 2701), x3 (ix2 g p) = (V m c main_arg3 : IVec S23x2701 32) (ix2 g p)) :
    Unpacked m c (v.read (Elt Ideal) (v.writes (Elt Ideal) f (fieldPieces (zpOf arg4 harg4 x3)))) := by
  intro g n hn
  have e : fieldPieces (zpOf arg4 harg4 x3) = View.tilePieces (Val := Elt Ideal) (s := S23x27136) (e := .i32) (NT := 10) S23x2701.size (fun j : Fin 10 => ![0, 2701 * j.val]) inb_f
      (fun j => unpacked j.val (zpOf arg4 harg4 x3)) 10 le_rfl := rfl
  have hj : n.val / 2701 < 10 := by omega
  rw [e, View.read_tilePieces v f S23x2701.size (fun j : Fin 10 => ![0, 2701 * j.val]) inb_f (fun j => unpacked j.val (zpOf arg4 harg4 x3)) 10 le_rfl
    (ix2 g n) ⟨n.val / 2701, hj⟩ hj (ix2 g ⟨n.val % 2701, Nat.mod_lt _ (by decide)⟩) ?_ 1 ?_]
  · rw [unpacked_apply _ hj]
    unfold zcol
    rw [← h3]
    congr 3
    refine load_apply arg4 harg4 x3 _ _ _ ?_
    intro a
    match a with
    | ⟨0, _⟩ => exact (Nat.zero_add _).symm
    | ⟨1, _⟩ => exact (Nat.zero_add _).symm
  · intro a
    match a with
    | ⟨0, _⟩ => exact (Nat.zero_add _).symm
    | ⟨1, _⟩ => show n.val = 2701 * (n.val / 2701) + n.val % 2701; omega
  · intro i' hi'
    have : i'.val ≠ n.val / 2701 := fun h => hi' (Fin.ext h)
    show n.val < 2701 * i'.val ∨ 2701 * i'.val + 2701 ≤ n.val
    omega

/-! ## The block -/

/-- What the body stores at a point's column inside the array is the result's. -/
theorem stored_block (arg1 : Memref sig .tc .vmem S256x3072 .bf16) (harg1 : arg1.IsWhole) (arg2 : Memref sig .tc .vmem S295x512 .i32) (harg2 : arg2.IsWhole)
    (arg3 : Memref sig .tc .vmem S23x512 .bf16) (harg3 : arg3.IsWhole) (d1 : Vec Ideal S295x512 .i32) (d2 : Vec Ideal S23x512 .bf16)
    (arg7 : Memref sig .tc .vmem S23x512 .bf16) (arg8 : Memref sig .tc .vmem S23x512 .i32) (arg9 : Memref sig .tc .vmem S23x512 .i32)
    (v : View sig .tc .vmem S23x27136 .i32) (f : v.ty.Contents (Elt Ideal)) (hf : Unpacked m c (v.read (Elt Ideal) f))
    (i : Fin 256) (n : Fin 512) (h : 512 * t.val + n.val < 27008) :
    stored arg1 harg1 arg2 harg2 arg3 harg3 (iblk m c 0 t) (win0_1.fill (grid0.coords t) d1 (iblk m c 1 t)) (win0_2.fill (grid0.coords t) d2 (iblk m c 2 t)) arg7 arg8 arg9
      (View.readAt (Elt Ideal) v (Rect.unit (s := S23x27136) (k0_off1 (grid0.coords t)) S23x512.size (k0_off1_inb (grid0.coords t))).toLoadRect f) (ix2 i n)
      = blockOf m c t (ix2 i n) := by
  refine stored_apply _ _ _ _ _ _ _ _ _ _ _ _ _ i n (xrow (V m c main_v5) i) (wcol (V m c main_arg1) (512 * t.val + n.val))
    (zcol (V m c main_arg3) (512 * t.val + n.val)) (scol (V m c main_arg2) (512 * t.val + n.val)) ?_ ?_ ?_ ?_ ?_
  · intro q
    refine (whole0 m c t i q).trans ?_
    unfold xrow
    rw [dif_pos q.isLt]
  · intro r
    refine (fill1 m c t d1 r n h).trans ?_
    unfold wcol
    rw [dif_pos ⟨r.isLt, h⟩]
  · unfold wcol
    rw [dif_neg (fun h => absurd h.1 (by decide))]
  · intro g
    refine (fill2 m c t d2 g n h).trans ?_
    unfold scol
    rw [dif_pos h]
  · intro g
    exact load_unpacked m c t v f hf g n h

/-- What the run's piece leaves in the result's buffer. -/
theorem read_full (v : View sig .tc .vmem S256x512 .bf16) (f : v.ty.Contents (Elt Ideal)) (w : FVec Ideal S256x512 .bf16) :
    v.read (Elt Ideal) (v.writes (Elt Ideal) f [⟨Rect.unit (s := S256x512) ![0, 0] ![256, 512] inb_S256x512_S256x512_0_0, w⟩]) = w := by
  funext y
  refine View.read_writes_cons_unit_of_mem v f (off := ![0, 0]) (off' := ![0, 0]) (size := ![256, 512]) inb_S256x512_S256x512_0_0 w [] y y rfl ?_
  intro a
  match a with
  | ⟨0, _⟩ => exact (Nat.zero_add _).symm
  | ⟨1, _⟩ => exact (Nat.zero_add _).symm

theorem outOf_full (w : FVec Ideal S256x512 .bf16) :
    outOf (F := Ideal) [⟨Rect.unit (s := S256x512) ![0, 0] ![256, 512] inb_S256x512_S256x512_0_0, w⟩] = w :=
  read_full VO0_4 _ w

theorem out_A (h0 : t.val % 53 = 0) (d1 : Vec Ideal S295x512 .i32) (d2 : Vec Ideal S23x512 .bf16) (xs : Vec Ideal S23x27136 .i32) :
    win0_4.cut (grid0.coords t) (outOf (runA (F := Ideal) c t h0 (iblk m c 0 t) (win0_1.fill (grid0.coords t) d1 (iblk m c 1 t))
      (win0_2.fill (grid0.coords t) d2 (iblk m c 2 t)) (iblk m c 3 t) xs).1) = win0_4.cut (grid0.coords t) (blockOf m c t) := by
  refine cut4 t _ _ fun i n h => ?_
  rw [run_A, outOf_full]
  exact stored_block m c t _ _ _ _ _ _ d1 d2 _ _ _ _ _ (pieces_unpacked m c _ _ _ _ _ (whole3 m c t)) i n h

theorem out_B (h0 : ¬t.val % 53 = 0) (d1 : Vec Ideal S295x512 .i32) (d2 : Vec Ideal S23x512 .bf16) (xs : Vec Ideal S23x27136 .i32) (hx : Unpacked m c xs) :
    win0_4.cut (grid0.coords t) (outOf (runB (F := Ideal) c t h0 (iblk m c 0 t) (win0_1.fill (grid0.coords t) d1 (iblk m c 1 t))
      (win0_2.fill (grid0.coords t) d2 (iblk m c 2 t)) (iblk m c 3 t) xs).1) = win0_4.cut (grid0.coords t) (blockOf m c t) := by
  refine cut4 t _ _ fun i n h => ?_
  rw [run_B, outOf_full]
  refine stored_block m c t _ _ _ _ _ _ d1 d2 _ _ _ _ _ ?_ i n h
  rw [(Memref.isWhole_whole _).read_unread]
  exact hx

theorem scratch_A (h0 : t.val % 53 = 0) (d1 : Vec Ideal S295x512 .i32) (d2 : Vec Ideal S23x512 .bf16) (xs : Vec Ideal S23x27136 .i32) (f : VS0_0.ty.Contents (Elt Ideal)) :
    Unpacked m c (VS0_0.read (Elt Ideal) (VS0_0.writes (Elt Ideal) f (runA (F := Ideal) c t h0 (iblk m c 0 t) (win0_1.fill (grid0.coords t) d1 (iblk m c 1 t))
      (win0_2.fill (grid0.coords t) d2 (iblk m c 2 t)) (iblk m c 3 t) xs).2.1)) := by
  rw [run_A_scratch]
  exact pieces_unpacked m c _ _ _ _ _ (whole3 m c t)

end Cert.KernelIdeal.Hand

end
-- ==== Proof.Tracked.lean ====
/-
  The run of the kernel with the result followed: after the body at each grid point the result's buffer holds the
  point's block at the columns inside the array, and the scratch holds the unpacked zero points from the first point on.
-/
module

public import proofs.«01_k».proof.Proof.Values

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Words
open scoped BigOperators

variable (m : (ℓ : Loc nD τ sig) → Buf (Elt Ideal) ℓ) (ρ : Dev nD → PrngReg)

/-- Between grid points: the scratch of zero points is unpacked after the first point; the rest of the scratch and the
    random state hold anything. -/
def between (c : Dev nD) (n : Fin (cfg0.N + 1)) : sProp (MT nD τ sig Unit (Elt Ideal) ℕ (UR sig nD τ) ℕ) :=
  iprop(iprop((∃ d, ⌜n.val = 0 ∨ Unpacked m c d⌝ ∗ owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)) ∗ (∃ r, prngReg c r))

/-- The data of the run: the result's blocks, the scratch between points. -/
abbrev datsT : (p : Fin 1) → (c : Dev nD) → Dat τ (Elt Ideal) Unit ℕ (UR sig nD τ) ℕ (cfgs p) c := dats m (blockOf m) (between m)

set_option maxHeartbeats 1600000 in
theorem body_tracked (c : Dev nD) : BodyObligationLoose (datsT m 0 c) (defs₀ (F := Ideal)) Variants.none () Set.univ := fun t => by
  rw [bigSep_W0, bigSep_W0, defs₀_row]
  simp only
  rw [show (datsT m 0 c).owesAt () t.succ = (datsT m 0 c).owesAt () t.castSucc from rfl]
  rw [Φ_eq, Φ_eq]
  unfold between
  iintro ⟨⟨⟨⟨%xs, %hxs, HS0⟩, HS1, HS2, HS3⟩, Hg⟩, Ho, ⟨%d0, H0⟩, ⟨%d1, H1⟩, ⟨%d2, H2⟩, ⟨%d3, H3⟩, ⟨%d4, H4⟩⟩
  rw [before0, before1, before2, before3]
  by_cases h0 : t.val % 53 = 0
  · skip
    iapply (sound_A c t h0 (iblk m c 0 t) (win0_1.fill (grid0.coords t) d1 (iblk m c 1 t)) (win0_2.fill (grid0.coords t) d2 (iblk m c 2 t)) (iblk m c 3 t) xs _)
    isplitl [H0 H1 H2 H3 H4 HS0 HS1 HS2 HS3]
    · isplitl [H0]; · iexact H0
      isplitl [H1]; · iexact H1
      isplitl [H2]; · iexact H2
      isplitl [H3]; · iexact H3
      isplitl [H4]; · iexists ((datsT m 0 c).before 4 t d4); iexact H4
      isplitl [HS0]; · iexact HS0
      isplitl [HS1]; · iexact HS1
      isplitl [HS2]; · iexact HS2
      iexact HS3
    iintro ⟨H0, H1, H2, H3, H4, ⟨%f, HS0⟩, HS1, HS2, HS3⟩
    isplitl [HS0 HS1 HS2 HS3 Hg]
    · isplitl [HS0 HS1 HS2 HS3]
      · isplitl [HS0]
        · iexists _; isplitr
          swap; · iexact HS0
          ipureintro; exact Or.inr (scratch_A m c t h0 d1 d2 xs f)
        isplitl [HS1]; · iexact HS1
        isplitl [HS2]; · iexact HS2
        iexact HS3
      iexact Hg
    isplitl [Ho]; · iexact Ho
    isplitl [H0]
    · rw [after0]; iexact H0
    isplitl [H1]
    · iexists d1
      change _ ⊢ owns (c : Thread nD τ) (ms0_1 t) fullShare (win0_1.fill (grid0.coords t) d1 (win0_1.cut (grid0.coords t) ((datsT m 0 c).after 1 t)))
      rw [cut1]; try iexact H1
    isplitl [H2]
    · iexists d2
      change _ ⊢ owns (c : Thread nD τ) (ms0_2 t) fullShare (win0_2.fill (grid0.coords t) d2 (win0_2.cut (grid0.coords t) ((datsT m 0 c).after 2 t)))
      rw [cut2]; try iexact H2
    isplitl [H3]
    · rw [after3]; iexact H3
    iexists (outOf (runA (F := Ideal) c t h0 (iblk m c 0 t) (win0_1.fill (grid0.coords t) d1 (iblk m c 1 t)) (win0_2.fill (grid0.coords t) d2 (iblk m c 2 t)) (iblk m c 3 t) xs).1)
    change _ ⊢ owns (c : Thread nD τ) (ms0_4 t) fullShare (win0_4.fill (grid0.coords t) _ (win0_4.cut (grid0.coords t) ((datsT m 0 c).after 4 t)))
    rw [after4, win0_4.fill_congr_cut (grid0.coords t) (out_A m c t h0 d1 d2 xs)]; try iexact H4
  · have hx : Unpacked m c xs := hxs.resolve_left (fun h => h0 (by
      have h : t.val = 0 := h
      rw [h]))
    iapply (sound_B c t h0 (iblk m c 0 t) (win0_1.fill (grid0.coords t) d1 (iblk m c 1 t)) (win0_2.fill (grid0.coords t) d2 (iblk m c 2 t)) (iblk m c 3 t) xs _)
    isplitl [H0 H1 H2 H3 H4 HS0 HS1 HS2 HS3]
    · isplitl [H0]; · iexact H0
      isplitl [H1]; · iexact H1
      isplitl [H2]; · iexact H2
      isplitl [H3]; · iexact H3
      isplitl [H4]; · iexists ((datsT m 0 c).before 4 t d4); iexact H4
      isplitl [HS0]; · iexact HS0
      isplitl [HS1]; · iexact HS1
      isplitl [HS2]; · iexact HS2
      iexact HS3
    iintro ⟨H0, H1, H2, H3, H4, HS0, HS1, HS2, HS3⟩
    isplitl [HS0 HS1 HS2 HS3 Hg]
    · isplitl [HS0 HS1 HS2 HS3]
      · isplitl [HS0]
        · iexists _; isplitr
          swap; · iexact HS0
          ipureintro; exact Or.inr hx
        isplitl [HS1]; · iexact HS1
        isplitl [HS2]; · iexact HS2
        iexact HS3
      iexact Hg
    isplitl [Ho]; · iexact Ho
    isplitl [H0]
    · rw [after0]; iexact H0
    isplitl [H1]
    · iexists d1
      change _ ⊢ owns (c : Thread nD τ) (ms0_1 t) fullShare (win0_1.fill (grid0.coords t) d1 (win0_1.cut (grid0.coords t) ((datsT m 0 c).after 1 t)))
      rw [cut1]; try iexact H1
    isplitl [H2]
    · iexists d2
      change _ ⊢ owns (c : Thread nD τ) (ms0_2 t) fullShare (win0_2.fill (grid0.coords t) d2 (win0_2.cut (grid0.coords t) ((datsT m 0 c).after 2 t)))
      rw [cut2]; try iexact H2
    isplitl [H3]
    · rw [after3]; iexact H3
    iexists (outOf (runB (F := Ideal) c t h0 (iblk m c 0 t) (win0_1.fill (grid0.coords t) d1 (iblk m c 1 t)) (win0_2.fill (grid0.coords t) d2 (iblk m c 2 t)) (iblk m c 3 t) xs).1)
    change _ ⊢ owns (c : Thread nD τ) (ms0_4 t) fullShare (win0_4.fill (grid0.coords t) _ (win0_4.cut (grid0.coords t) ((datsT m 0 c).after 4 t)))
    rw [after4, win0_4.fill_congr_cut (grid0.coords t) (out_B m c t h0 d1 d2 xs hx)]; try iexact H4

set_option backward.isDefEq.respectTransparency.types false in
set_option maxHeartbeats 800000 in
theorem run_tracked : θ_run defs (onTc (τ := τ) (main (F := Ideal))) (s₀ m ρ) (fun r =>
    Pipeline.FramePost cfgs (datsT m) 0 (Pipeline.afterTail₀ cfgs (datsT m) 0 (V0 m) [hostOps1]) r ∧ r.2.sem = fun _ => 0) :=
  Pipeline.θ_run_frame_around_track (Q' := _) cfgs (datsT m) (0 : Fin 1) launch0 defs₀ Variants.none m ρ main
    (hbody := fun c => body_tracked m c) (hshare := fun c => (datsT m 0 c).share_full fun _ => rfl)
    (howed := fun _ _ => rfl) (V₀ := V0 m) (opss := [hostOps1]) (hsub := sfx_sub) (hfresh := sfx_fresh) (hkeep := sfx_keeps)
    (hmain := hmain m Variants.none) (hA := A_eq m _ _)
    (hin := fun c => by
      rw [Φ_eq, PhiA0_eq]
      unfold between
      iintro ⟨⟨⟨%xs, HS0⟩, HS⟩, Hg⟩
      isplitl [HS0 HS]
      · isplitl [HS0]
        · iexists xs; isplitr
          · ipureintro; exact Or.inl rfl
          iexact HS0
        iexact HS
      iexact Hg)
    (hout := fun c => by
      rw [Φ_eq, PhiA0_eq]
      unfold between
      iintro ⟨⟨⟨%xs, -, HS0⟩, HS⟩, Hg⟩
      isplitl [HS0 HS]
      · isplitl [HS0]
        · iexists xs; iexact HS0
        iexact HS
      iexact Hg)

end Cert.KernelIdeal.Hand

end
-- ==== Proof.Final.lean ====
/-
  The kernel's result: the blocks written back are the whole array, and the line after the region reshapes it.
-/
module

public import proofs.«01_k».proof.Proof.Tracked
public import Idealize.ShloMosaic.Lib.KernelVsHost

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Words
open Idealize.ShloMosaic.StableHlo
open scoped BigOperators

variable (m : (ℓ : Loc nD τ sig) → Buf (Elt Ideal) ℓ) (ρ : Dev nD → PrngReg) (c : Dev nD)

/-! ## The array the region writes -/

/-- The whole result, as the region's array. -/
def whole : Vec Ideal S256x27008 .bf16 := fun j => resultOf m c (j 0) (j 1).val

theorem final_array : (datsT m 0 c).arrAt 4 cfg0.N = whole m c := by
  refine (datsT m 0 c).arrAt_eq_of_cover 4 (whole m c) ?_ ?_
  · intro t _
    show win0_4.cut (grid0.coords t) ((datsT m 0 c).after 4 t) = _
    rw [after4]
    funext j
    show resultOf m c _ _ = resultOf m c _ _
    congr 1
    · apply Fin.ext
      show (j 0).val = 0 * 256 + 1 * (j 0).val
      omega
    · show 512 * t.val + (j 1).val = (BitVec.ofNat 32 (grid0.coords t 0).val).toNat * 512 + 1 * (j 1).val
      rw [coord_toNat]; omega
  · intro i
    have h0 : (i 0).val < 256 := (i 0).isLt
    have h1 : (i 1).val < 27008 := (i 1).isLt
    have ht : (i 1).val / 512 < cfg0.N := Nat.lt_of_lt_of_eq (by omega) N_0.symm
    refine ⟨⟨(i 1).val / 512, ht⟩, flush0_4 _, ?_⟩
    show i ∈ ((View.whole main_v6).slice (win0_4.rect ⟨(i 1).val / 512, ht⟩)).set
    rw [View.set_slice_whole, Rect.mem_set_unit]
    intro a
    match a with
    | ⟨0, _⟩ =>
      show 0 * 256 ≤ (i 0).val ∧ (i 0).val < 0 * 256 + 256
      omega
    | ⟨1, _⟩ =>
      have hc := clip_columns ⟨(i 1).val / 512, ht⟩ ((i 1).val % 512) (Nat.mod_lt _ (by decide))
      show (BitVec.ofNat 32 (grid0.coords ⟨(i 1).val / 512, ht⟩ 0).val).toNat * 512 ≤ (i 1).val ∧ (i 1).val < (BitVec.ofNat 32 (grid0.coords ⟨(i 1).val / 512, ht⟩ 0).val).toNat * 512
        + (Pipeline.Clip.of (BitVec.ofNat 32 (grid0.coords ⟨(i 1).val / 512, ht⟩ 0).val).toNat 512 27008).extent 512
      have hx := hc.mpr (by show 512 * ((i 1).val / 512) + (i 1).val % 512 < 27008; omega)
      have he := coord_toNat ⟨(i 1).val / 512, ht⟩
      have he : (BitVec.ofNat 32 (grid0.coords ⟨(i 1).val / 512, ht⟩ 0).val).toNat = (i 1).val / 512 := he
      rw [he] at hx ⊢
      omega

/-! ## The line after the region -/

theorem tail_v7 : Pipeline.afterTail₀ cfgs (datsT m) 0 (V0 m) [hostOps1] c main_v7
    = shapeCast S256x1x27008 (whole m c) shapeCasts_S256x27008_S256x1x27008 := by
  unfold Pipeline.afterTail₀
  simp only [hostOps1, List.flatten_cons, List.flatten_nil, List.append_nil]
  after_results_simp
  have e := (Pipeline.withArrays_arr spec0 (by decide) c (V0 m c) (fun w => (datsT m 0 c).arrAt w cfg0.N) 4).trans (final_array m c)
  exact congrArg (fun x : Vec Ideal S256x27008 .bf16 => shapeCast S256x1x27008 x shapeCasts_S256x27008_S256x1x27008) e

/-! ## The lines before it -/

theorem V_x : (V m c main_v5 : Vec Ideal S256x3072 .bf16) = pad S256x3072 ![0, 0] ![0, 112] ![0, 0]
    (shapeCast S256x2960 (transpose S256x37x5x8x2 [0, 1, 4, 2, 3] (shapeCast S256x37x8x2x5
      (pad S256x2960 ![0, 0] ![0, 16] ![0, 0] (shapeCast S256x2944 (m ((c : Thread nD τ).loc main_arg0) : Vec Ideal S256x1x2944 .bf16) shapeCasts_S256x1x2944_S256x2944)
        (sitofp (F := Ideal) .bf16 (constantI S_ 32 0#32)) pads_S256x2944_S256x2960_000_0160 h_S_) shapeCasts_S256x2960_S256x37x8x2x5)
      transposes_S256x37x8x2x5_S256x37x5x8x2_0_1_4_2_3) shapeCasts_S256x37x5x8x2_S256x2960)
    (sitofp (F := Ideal) .bf16 (constantI S_ 32 0#32)) pads_S256x2960_S256x3072_000_01120 h_S_ := by
  unfold V V0
  simp only [hostOps0, hostOps0_1, hostOps0_2, hostOps0_3, List.flatten_cons, List.flatten_nil, List.append_nil, List.cons_append, List.nil_append]
  after_results_simp
  rfl

/-! ## The permuted x -/

/-- Row `i` of x at column `k`, zero past its 2944 columns. -/
def xcol (X : Vec Ideal S256x1x2944 .bf16) (i : Fin 256) (k : ℕ) : EReal := if h : k < 2944 then X (ix3 i 0 ⟨k, h⟩) else 0

theorem pad_zero (k : S_.Idx) : (sitofp (F := Ideal) .bf16 (constantI S_ 32 0#32) : Vec Ideal S_ .bf16) k = 0 := by
  show ((((0#32 : BitVec 32).toInt : ℝ)) : EReal) = 0
  norm_num

theorem xrow_V (i : Fin 256) (q : ℕ) (hq : q < 2960) :
    xrow (V m c main_v5) i q = xcol (m ((c : Thread nD τ).loc main_arg0)) i (orig q) := by
  unfold xrow
  rw [dif_pos (by omega), V_x, pad_apply_of_inside (k := (ix2 i ⟨q, hq⟩ : S256x2960.Idx)) _ _ _ _ _ _ _ _ ?_,
    shapeCast_apply (k := (ix5 i ⟨q / 80, by omega⟩ ⟨q % 80 / 16, by omega⟩ ⟨q % 16 / 2, by omega⟩ ⟨q % 2, by omega⟩ : S256x37x5x8x2.Idx)) _ _ _ ?_,
    transpose_apply (k := (ix5 i ⟨q / 80, by omega⟩ ⟨q % 16 / 2, by omega⟩ ⟨q % 2, by omega⟩ ⟨q % 80 / 16, by omega⟩ : S256x37x8x2x5.Idx)) _ _ _ _ ?_,
    shapeCast_apply (k := (ix2 i ⟨orig q, by unfold orig; omega⟩ : S256x2960.Idx)) _ _ _ ?_]
  · unfold xcol
    by_cases h : orig q < 2944
    · rw [dif_pos h, pad_apply_of_inside (k := (ix2 i ⟨orig q, h⟩ : S256x2944.Idx)) _ _ _ _ _ _ _ _ ?_,
        shapeCast_apply (k := (ix3 i 0 ⟨orig q, h⟩ : S256x1x2944.Idx)) _ _ _ ?_]
      · rw [Shape.rowMajor_val_three, Shape.rowMajor_val_two]
        show (i.val * 1 + 0) * 2944 + orig q = i.val * 2944 + orig q
        omega
      · intro a
        match a with
        | ⟨0, _⟩ => show i.val = 0 + i.val * 1; omega
        | ⟨1, _⟩ => show orig q = 0 + orig q * 1; omega
    · rw [dif_neg h, pad_apply_of_not_inside (a := (1 : Fin 2)) _ _ _ _ _ _ _ _ ?_, pad_zero]
      intro hh
      have h3 : (orig q - 0) / 1 < 2944 := hh.2.2
      omega
  · rw [Shape.rowMajor_val_two, Shape.rowMajor_val_five]
    show i.val * 2960 + orig q = (((i.val * 37 + q / 80) * 8 + q % 16 / 2) * 2 + q % 2) * 5 + q % 80 / 16
    unfold orig
    omega
  · intro b
    match b with
    | ⟨0, _⟩ => rfl
    | ⟨1, _⟩ => rfl
    | ⟨2, _⟩ => rfl
    | ⟨3, _⟩ => rfl
    | ⟨4, _⟩ => rfl
  · rw [Shape.rowMajor_val_two, Shape.rowMajor_val_five]
    show (((i.val * 37 + q / 80) * 5 + q % 80 / 16) * 8 + q % 16 / 2) * 2 + q % 2 = i.val * 2960 + q
    omega
  · intro a
    match a with
    | ⟨0, _⟩ => show i.val = 0 + i.val * 1; omega
    | ⟨1, _⟩ => show q = 0 + q * 1; omega

/-! ## The sum in the order of the matrix's rows -/

/-- The position of row `k` of the matrix in the permuted x. -/
def place (k : ℕ) : ℕ := 80 * (k / 80) + 16 * (k % 5) + k % 80 / 5

theorem orig_digits (b t s : ℕ) (ht : t < 5) (hs : s < 16) : orig (80 * b + 16 * t + s) = 80 * b + 5 * s + t := by
  unfold orig; omega

theorem place_digits (b t s : ℕ) (ht : t < 5) (hs : s < 16) : place (80 * b + 5 * s + t) = 80 * b + 16 * t + s := by
  unfold place; omega

theorem place_orig (q : ℕ) : place (orig q) = q := by
  obtain ⟨b, t, s, ht, hs, rfl⟩ : ∃ b t s, t < 5 ∧ s < 16 ∧ q = 80 * b + 16 * t + s :=
    ⟨q / 80, q % 80 / 16, q % 16, by omega, by omega, by omega⟩
  rw [orig_digits b t s ht hs, place_digits b t s ht hs]

theorem orig_place (k : ℕ) : orig (place k) = k := by
  obtain ⟨b, t, s, ht, hs, rfl⟩ : ∃ b t s, t < 5 ∧ s < 16 ∧ k = 80 * b + 5 * s + t :=
    ⟨k / 80, k % 5, k % 80 / 5, by omega, by omega, by omega⟩
  rw [place_digits b t s ht hs, orig_digits b t s ht hs]

theorem sum_orig (f : ℕ → EReal) : ∑ q ∈ Finset.range 2960, f (orig q) = ∑ k ∈ Finset.range 2960, f k := by
  refine Finset.sum_nbij' orig place ?_ ?_ ?_ ?_ ?_
  · intro q hq
    rw [Finset.mem_range] at hq ⊢
    unfold orig; omega
  · intro k hk
    rw [Finset.mem_range] at hk ⊢
    unfold place; omega
  · intro q hq
    exact place_orig q
  · intro k hk
    exact orig_place k
  · intro q hq
    rfl

/-- The product at row `i` and column `n`: the sum over the 2944 rows of the matrix of x times the row's weight. -/
def product (X : Vec Ideal S256x1x2944 .bf16) (W : IVec S295x27008 32) (S : Vec Ideal S23x27008 .bf16) (Z : IVec S23x2701 32) (i : Fin 256) (n : ℕ) : EReal :=
  ∑ k ∈ Finset.range 2944, xcol X i k * entry (wcol W n) (zcol Z n) (scol S n) k

theorem resultOf_eq (i : Fin 256) (n : ℕ) :
    resultOf m c i n = product (m ((c : Thread nD τ).loc main_arg0)) (m ((c : Thread nD τ).loc main_arg1))
      (m ((c : Thread nD τ).loc main_arg2)) (m ((c : Thread nD τ).loc main_arg3)) i n := by
  unfold resultOf resultAt product
  rw [V_main_arg1, V_main_arg2, V_main_arg3]
  rw [Finset.sum_congr rfl (fun q hq => by rw [xrow_V m c i q (Finset.mem_range.mp hq)])]
  rw [sum_orig (fun k => xcol (m ((c : Thread nD τ).loc main_arg0)) i k * entry (wcol (m ((c : Thread nD τ).loc main_arg1)) n)
    (zcol (m ((c : Thread nD τ).loc main_arg3)) n) (scol (m ((c : Thread nD τ).loc main_arg2)) n) k)]
  refine (Finset.sum_subset (Finset.range_subset_range.mpr (by decide)) fun k _ hk => ?_).symm
  rw [Finset.mem_range] at hk
  unfold xcol
  rw [dif_neg hk, zero_mul]

/-! ## The kernel's run -/

/-- The kernel's result as an array. -/
def out : Vec Ideal S256x1x27008 .bf16 := fun j => product (m ((c : Thread nD τ).loc main_arg0)) (m ((c : Thread nD τ).loc main_arg1))
  (m ((c : Thread nD τ).loc main_arg2)) (m ((c : Thread nD τ).loc main_arg3)) (j 0) (j 2).val

theorem cast_whole : shapeCast S256x1x27008 (whole m c) shapeCasts_S256x27008_S256x1x27008 = out m c := by
  funext j
  rw [shapeCast_apply (k := (ix2 (j 0) (j 2) : S256x27008.Idx)) _ _ _ ?_]
  · exact resultOf_eq m c _ _
  · rw [Shape.rowMajor_val_three, Shape.rowMajor_val_two]
    have h1 : (j 1).val < 1 := (j 1).isLt
    show (j 0).val * 27008 + (j 2).val = ((j 0).val * 1 + (j 1).val) * 27008 + (j 2).val
    omega

theorem run_out : θ_run defs (onTc (τ := τ) (main (F := Ideal))) ⟨m, fun _ => 0, ρ⟩ fun r => ∀ c : Dev nD,
    r.2.mem ((c.tc : Thread nD τ).loc main_v7) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c =>
    ⟨((h.1 c).2 main_v7 (Pipeline.mem_restRefs_of main_v7 (by decide) (by decide))).trans ((tail_v7 m c).trans (cast_whole m c)),
      ((h.1 c).2 main_arg0 (Pipeline.mem_restRefs_of main_arg0 (by decide) (by decide))).trans (W_main_arg0 m (datsT m) c),
      ((h.1 c).1 1).trans (((datsT m 0 c).arrAt_in 1 rfl _).trans (V_main_arg1 m c)),
      ((h.1 c).1 2).trans (((datsT m 0 c).arrAt_in 2 rfl _).trans (V_main_arg2 m c)),
      ((h.1 c).1 3).trans (((datsT m 0 c).arrAt_in 3 rfl _).trans (V_main_arg3 m c))⟩)
    (run_tracked m ρ)

end Cert.KernelIdeal.Hand

end
-- ==== Proof.Ref.lean ====
/-
  What the reference computes over the extended reals: at row i and column n, the sum over the 2944 rows of the matrix of
  x times the row's weight.
-/
module

public import proofs.«01_k».proof.Proof.Final
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx Cert.Words
open Cert.KernelIdeal.Hand (xcol wcol scol zcol entry grp product)
open scoped BigOperators

/-! ## The fields of packed words -/

/-- A word shifted right by a field's three-bit place and masked is the field. -/
theorem field_word (w a : BitVec 32) (j : ℕ) (hj : j < 10) (ha : a.toNat = 3 * j) :
    IntOp.andi (IntOp.shrsi .host w a) 7#32 = (fld w j).setWidth 32 := by
  unfold IntOp.shrsi IntOp.andi
  rw [if_pos (by omega)]
  unfold BitVec.sshiftRight'
  rw [ha]
  exact shifted_field w j hj

theorem field_real (x : BitVec 3) : FloatOps.sitofp (F := Ideal) .bf16 (x.setWidth 32) = (((x.toNat : ℝ)) : EReal) := by
  show ((((x.setWidth 32).toInt : ℝ)) : EReal) = _
  rw [toInt_field]
  norm_num

/-! ## The weights -/

/-- The shift of each of the ten fields. -/
def shifts : IVec S295x10x27008 32 := broadcastInDim S295x10x27008 ![0, 1, 2] bcast_S1x10x1_S295x10x27008_0_1_2
  (broadcastInDim S1x10x1 ![1] bcast_S10_S1x10x1_1 (muli (broadcastInDim S10 ![] bcast_S_S10 (constantI S_ 32 3#32)) (iotaInDim S10 32 0)))

theorem shifts_apply (r : Fin 295) (j : Fin 10) (n : Fin 27008) : (shifts (ix3 r j n)).toNat = 3 * j.val := by
  unfold shifts
  rw [broadcastInDim_apply (k := (ix3 0 j 0 : S1x10x1.Idx)) _ _ _ _ ?_, broadcastInDim_apply (k := (ix1 j : S10.Idx)) _ _ _ _ ?_]
  · show ((3#32 : BitVec 32) * BitVec.ofNat 32 j.val).toNat = 3 * j.val
    rw [BitVec.toNat_mul, BitVec.toNat_ofNat, BitVec.toNat_ofNat]
    omega
  · intro a
    match a with
    | ⟨0, _⟩ => rfl
  · intro a
    match a with
    | ⟨0, _⟩ => rfl
    | ⟨1, _⟩ => rfl
    | ⟨2, _⟩ => rfl

/-- The packed weights, each word repeated for its ten fields. -/
def words (W : IVec S295x27008 32) : IVec S295x10x27008 32 := broadcastInDim S295x10x27008 ![0, 1, 2] bcast_S295x1x27008_S295x10x27008_0_1_2
  (broadcastInDim S295x1x27008 ![0, 2] bcast_S295x27008_S295x1x27008_0_2 W)

theorem words_apply (W : IVec S295x27008 32) (r : Fin 295) (j : Fin 10) (n : Fin 27008) : words W (ix3 r j n) = W (ix2 r n) := by
  unfold words
  rw [broadcastInDim_apply (k := (ix3 r 0 n : S295x1x27008.Idx)) _ _ _ _ ?_, broadcastInDim_apply (k := (ix2 r n : S295x27008.Idx)) _ _ _ _ ?_]
  · intro a
    match a with
    | ⟨0, _⟩ => rfl
    | ⟨1, _⟩ => rfl
  · intro a
    match a with
    | ⟨0, _⟩ => rfl
    | ⟨1, _⟩ => rfl
    | ⟨2, _⟩ => rfl

/-- The unpacked weights. -/
def fields (W : IVec S295x27008 32) : IVec S2944x27008 32 := extractStridedSlice S2944x27008 ![0, 0]
  (shapeCast S2950x27008 (andi (Host.shrsi (words W) shifts) (broadcastInDim S295x10x27008 ![] bcast_S_S295x10x27008 (constantI S_ 32 7#32)))
    shapeCasts_S295x10x27008_S2950x27008) slices_S2950x27008_S2944x27008_0_0

theorem fields_apply (W : IVec S295x27008 32) (k : Fin 2944) (n : Fin 27008) :
    fields W (ix2 k n) = (fld (wcol W n.val (k.val / 10)) (k.val % 10)).setWidth 32 := by
  have hw : wcol W n.val (k.val / 10) = W (ix2 ⟨k.val / 10, by omega⟩ n) := by
    unfold wcol
    rw [dif_pos ⟨by omega, n.isLt⟩]
  unfold fields
  rw [extractStridedSlice_apply (k := (ix2 ⟨k.val, by omega⟩ n : S2950x27008.Idx)) _ _ _ _ ?_,
    shapeCast_apply (k := (ix3 ⟨k.val / 10, by omega⟩ ⟨k.val % 10, by omega⟩ n : S295x10x27008.Idx)) _ _ _ ?_, hw]
  · show IntOp.andi (IntOp.shrsi .host (words W _) (shifts _)) 7#32 = _
    rw [words_apply]
    exact field_word _ _ _ (by omega) (shifts_apply _ _ _)
  · rw [Shape.rowMajor_val_three, Shape.rowMajor_val_two]
    show (k.val / 10 * 10 + k.val % 10) * 27008 + n.val = k.val * 27008 + n.val
    omega
  · intro a
    match a with
    | ⟨0, _⟩ => show k.val = 0 + k.val; omega
    | ⟨1, _⟩ => show n.val = 0 + n.val; omega

/-! ## The zero points -/

/-- One field of every packed word of the zero points. -/
def piece (Z : IVec S23x2701 32) (a : BitVec 32) : IVec S23x2701 32 :=
  andi (Host.shrsi Z (broadcastInDim S23x2701 ![] bcast_S_S23x2701 (constantI S_ 32 a))) (broadcastInDim S23x2701 ![] bcast_S_S23x2701 (constantI S_ 32 7#32))

/-- The unpacked zero points. -/
def points (Z : IVec S23x2701 32) : IVec S23x27008 32 := extractStridedSlice S23x27008 ![0, 0]
  (concatenate S23x27010 1 [⟨S23x2701, piece Z 0#32⟩, ⟨S23x2701, piece Z 3#32⟩, ⟨S23x2701, piece Z 6#32⟩, ⟨S23x2701, piece Z 9#32⟩, ⟨S23x2701, piece Z 12#32⟩,
    ⟨S23x2701, piece Z 15#32⟩, ⟨S23x2701, piece Z 18#32⟩, ⟨S23x2701, piece Z 21#32⟩, ⟨S23x2701, piece Z 24#32⟩, ⟨S23x2701, piece Z 27#32⟩]
    concatenates_S23x2701_S23x2701_S23x2701_S23x2701_S23x2701_S23x2701_S23x2701_S23x2701_S23x2701_S23x2701_S23x27010_d1) slices_S23x27010_S23x27008_0_0

theorem points_apply (Z : IVec S23x2701 32) (g : Fin 23) (n : Fin 27008) : points Z (ix2 g n) = (zcol Z n.val g).setWidth 32 := by
  unfold points
  rw [extractStridedSlice_apply (k := (ix2 g ⟨n.val, by omega⟩ : S23x27010.Idx)) _ _ _ _ ?_]
  · have hn : n.val / 2701 < 10 := by have := n.isLt; omega
    have hc : Shape.Concatenates ((List.ofFn fun p : Fin 10 => (⟨S23x2701, piece Z (BitVec.ofNat 32 (3 * p.val))⟩ : (s : Shape) × (s.Idx → BitVec 32))).map (·.1))
        S23x27010 1 := concatenates_S23x2701_S23x2701_S23x2701_S23x2701_S23x2701_S23x2701_S23x2701_S23x2701_S23x2701_S23x2701_S23x27010_d1
    refine (concatenate_ofFn_apply (t := S23x27010) (s₁ := S23x2701) (1 : Fin 2) (fun p : Fin 10 => piece Z (BitVec.ofNat 32 (3 * p.val)))
      hc rfl 2701 rfl (ix2 g ⟨n.val, by omega⟩) ⟨n.val / 2701, hn⟩ rfl (ix2 g ⟨n.val % 2701, Nat.mod_lt _ (by decide)⟩) rfl ?_).trans ?_
    · intro b hb
      match b, hb with
      | ⟨0, _⟩, _ => rfl
      | ⟨1, _⟩, hb => exact absurd rfl hb
    · unfold zcol
      show IntOp.andi (IntOp.shrsi .host (Z _) (BitVec.ofNat 32 (3 * (n.val / 2701)))) 7#32 = _
      refine field_word _ _ _ (by omega) ?_
      rw [BitVec.toNat_ofNat]; omega
  · intro a
    match a with
    | ⟨0, _⟩ => show g.val = 0 + g.val; omega
    | ⟨1, _⟩ => show n.val = 0 + n.val; omega

/-! ## The matrix -/

/-- One row of a group's table for each of the group's 128 rows. -/
def spread (s : Vec Ideal S23x27008 .bf16) : Vec Ideal S23x128x27008 .bf16 := broadcastInDim S23x128x27008 ![0, 1, 2] bcast_S23x1x27008_S23x128x27008_0_1_2
  (broadcastInDim S23x1x27008 ![0, 2] bcast_S23x27008_S23x1x27008_0_2 s)

theorem spread_apply (s : Vec Ideal S23x27008 .bf16) (g : Fin 23) (r : Fin 128) (n : Fin 27008) : spread s (ix3 g r n) = s (ix2 g n) := by
  unfold spread
  rw [broadcastInDim_apply (k := (ix3 g 0 n : S23x1x27008.Idx)) _ _ _ _ ?_, broadcastInDim_apply (k := (ix2 g n : S23x27008.Idx)) _ _ _ _ ?_]
  · intro a
    match a with
    | ⟨0, _⟩ => rfl
    | ⟨1, _⟩ => rfl
  · intro a
    match a with
    | ⟨0, _⟩ => rfl
    | ⟨1, _⟩ => rfl
    | ⟨2, _⟩ => rfl

/-- The matrix of weights. -/
def matrix (W : IVec S295x27008 32) (S : Vec Ideal S23x27008 .bf16) (Z : IVec S23x2701 32) : FVec Ideal S2944x27008 .bf16 :=
  shapeCast S2944x27008 (mulf (F := Ideal) (φ := .bf16) (subf (F := Ideal) (φ := .bf16)
    (shapeCast S23x128x27008 (sitofp (F := Ideal) .bf16 (fields W)) shapeCasts_S2944x27008_S23x128x27008)
    (spread (sitofp (F := Ideal) .bf16 (points Z)))) (spread S)) shapeCasts_S23x128x27008_S2944x27008

theorem matrix_apply (W : IVec S295x27008 32) (S : Vec Ideal S23x27008 .bf16) (Z : IVec S23x2701 32) (k : Fin 2944) (n : Fin 27008) :
    matrix W S Z (ix2 k n) = entry (wcol W n.val) (zcol Z n.val) (scol S n.val) k.val := by
  have hg : grp k.val = ⟨k.val / 128, by omega⟩ := Fin.ext (by show min (k.val / 128) 22 = k.val / 128; omega)
  have hs : scol S n.val (grp k.val) = S (ix2 ⟨k.val / 128, by omega⟩ n) := by
    unfold scol
    rw [dif_pos n.isLt, hg]
  unfold matrix
  rw [shapeCast_apply (k := (ix3 ⟨k.val / 128, by omega⟩ ⟨k.val % 128, by omega⟩ n : S23x128x27008.Idx)) _ _ _ ?_]
  · show (shapeCast S23x128x27008 (sitofp (F := Ideal) .bf16 (fields W)) shapeCasts_S2944x27008_S23x128x27008 _ - spread (sitofp (F := Ideal) .bf16 (points Z)) _) * spread S _ = _
    rw [spread_apply, spread_apply, shapeCast_apply (k := (ix2 k n : S2944x27008.Idx)) _ _ _ ?_]
    · show (FloatOps.sitofp (F := Ideal) .bf16 (fields W (ix2 k n)) - FloatOps.sitofp (F := Ideal) .bf16 (points Z _)) * _ = _
      rw [fields_apply, points_apply, field_real, field_real]
      unfold entry
      rw [hs, hg]
    · rw [Shape.rowMajor_val_three, Shape.rowMajor_val_two]
      show k.val * 27008 + n.val = (k.val / 128 * 128 + k.val % 128) * 27008 + n.val
      omega
  · rw [Shape.rowMajor_val_three, Shape.rowMajor_val_two]
    show (k.val / 128 * 128 + k.val % 128) * 27008 + n.val = k.val * 27008 + n.val
    omega

/-! ## The result -/

variable (m : (ℓ : Loc nD τ sig) → Buf (Elt Ideal) ℓ) (c : Dev nD)

theorem res_eq : res_main_v65 m c = truncf (F := Ideal) .bf16 (Host.dotGeneral (F := Ideal) (φ₁ := .bf16) (φ₂ := .bf16) dot_S256x1x2944_S2944x27008_S256x1x27008_2_0_01_1_n_n none
    (m ((c.tc : Thread nD τ).loc main_arg0)) (matrix (m ((c.tc : Thread nD τ).loc main_arg1)) (m ((c.tc : Thread nD τ).loc main_arg2))
      (m ((c.tc : Thread nD τ).loc main_arg3)))) bitsLt_bf16_f32 := by
  unfold res_main_v65
  rfl

theorem dot_apply (X : FVec Ideal S256x1x2944 .bf16) (M : FVec Ideal S2944x27008 .bf16) (i : Fin 256) (n : Fin 27008) :
    Host.dotGeneral (F := Ideal) dot_S256x1x2944_S2944x27008_S256x1x27008_2_0_01_1_n_n none X M (ix3 i 0 n)
      = ∑ k : Fin 2944, X (ix3 i 0 k) * M (ix2 k n) := by
  simp only [Host.dotGeneral]
  rw [Ideal.dotGeneral_apply, ← Equiv.sum_comp (contrEquiv1 dot_S256x1x2944_S2944x27008_S256x1x27008_2_0_01_1_n_n 2944 rfl rfl).symm]
  refine Finset.sum_congr rfl fun k _ => ?_
  have hk := contrEquiv1_symm_val dot_S256x1x2944_S2944x27008_S256x1x27008_2_0_01_1_n_n 2944 rfl rfl k
  have el : dot_S256x1x2944_S2944x27008_S256x1x27008_2_0_01_1_n_n.lhsIdx (ix3 i 0 n)
      ((contrEquiv1 dot_S256x1x2944_S2944x27008_S256x1x27008_2_0_01_1_n_n 2944 rfl rfl).symm k) = ix3 i 0 k := by
    funext a; apply Fin.ext
    match a with
    | ⟨0, _⟩ => rfl
    | ⟨1, _⟩ => rfl
    | ⟨2, _⟩ => exact hk
  have er : dot_S256x1x2944_S2944x27008_S256x1x27008_2_0_01_1_n_n.rhsIdx (ix3 i 0 n)
      ((contrEquiv1 dot_S256x1x2944_S2944x27008_S256x1x27008_2_0_01_1_n_n 2944 rfl rfl).symm k) = ix2 k n := by
    funext a; apply Fin.ext
    match a with
    | ⟨0, _⟩ => exact hk
    | ⟨1, _⟩ => rfl
  rw [el, er]

theorem res_apply (i : Fin 256) (n : Fin 27008) : (res_main_v65 m c : Vec Ideal S256x1x27008 .bf16) (ix3 i 0 n)
    = product (m ((c.tc : Thread nD τ).loc main_arg0)) (m ((c.tc : Thread nD τ).loc main_arg1)) (m ((c.tc : Thread nD τ).loc main_arg2))
        (m ((c.tc : Thread nD τ).loc main_arg3)) i n.val := by
  rw [res_eq]
  refine (dot_apply _ _ i n).trans ?_
  unfold product
  rw [Finset.sum_range]
  refine Finset.sum_congr rfl fun k _ => ?_
  rw [matrix_apply]
  unfold xcol
  rw [dif_pos k.isLt]

/-- The reference's result as an array. -/
theorem res_out : (res_main_v65 m c : Vec Ideal S256x1x27008 .bf16) = fun j => product (m ((c.tc : Thread nD τ).loc main_arg0)) (m ((c.tc : Thread nD τ).loc main_arg1))
    (m ((c.tc : Thread nD τ).loc main_arg2)) (m ((c.tc : Thread nD τ).loc main_arg3)) (j 0) (j 2).val := by
  funext j
  have hj : j = (ix3 (j 0) 0 (j 2) : S256x1x27008.Idx) := by
    funext a
    match a with
    | ⟨0, _⟩ => rfl
    | ⟨1, _⟩ =>
      have h1 : (j 1).val < 1 := (j 1).isLt
      exact Fin.ext (show (j 1).val = 0 by omega)
    | ⟨2, _⟩ => rfl
  exact (congrArg _ hj).trans (res_apply m c (j 0) (j 2))

end Cert.ReferenceIdeal.Hand

end
-- ==== Proof.lean ====
/-
  The claims, put together: the frames of the kernel at its own words and over the extended reals, the frame of the
  reference, and the equality of the kernel's and the reference's results over the extended reals.
-/
module

public import proofs.«01_k».proof.Defs
public import proofs.«01_k».proof.Proof.Frame
public import proofs.«01_k».proof.Proof.Same
public import proofs.«01_k».proof.Proof.Final
public import proofs.«01_k».proof.Proof.Ref
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel over the extended reals ends without fault, its arguments unchanged and its counters at zero. -/
theorem frame_ideal : Cert.quiescent_KernelIdeal (hKernelIdeal := Cert.KernelIdeal.Gen.facts) :=
  fun m ρ _ => Cert.KernelIdeal.Hand.frame m ρ

/-- The frame of the kernel's text, at its own words. -/
def WordsFrame : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (@Cert.KernelIdeal.defs Bits _ Cert.KernelIdeal.Gen.facts) (onTc (τ := Cert.KernelIdeal.τ) (@Cert.KernelIdeal.main Bits _ Cert.KernelIdeal.Gen.facts)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The kernel and its idealization are one text, so the frame of the one is the frame of the other. -/
theorem frame_same : Cert.quiescent_Kernel (hKernel := Cert.Kernel.Gen.facts) = WordsFrame := by sl_kernel_rfl

/-- The kernel at its own words ends without fault, its arguments unchanged and its counters at zero. -/
theorem frame_words : Cert.quiescent_Kernel (hKernel := Cert.Kernel.Gen.facts) := by
  rw [frame_same]
  exact fun m ρ _ => Cert.KernelIdeal.Hand.frame m ρ

/-- The reference over the extended reals ends without fault, its arguments unchanged; it has no counters. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results: at each row and column, the sum over the matrix's rows of x
    times the row's weight. -/
theorem same_result : Cert.algebraic_KernelIdeal_ReferenceIdeal (hKernelIdeal := Cert.KernelIdeal.Gen.facts)
    (hReferenceIdeal := Cert.ReferenceIdeal.Gen.facts) := by
  intro m ρ m' ρ' _ hm
  refine ⟨fun c => Cert.KernelIdeal.Hand.out m c, Cert.KernelIdeal.Hand.run_out m ρ,
    (θ_run Cert.ReferenceIdeal.defs _ _).mono (fun r h c => ⟨(h c).1.trans ((Cert.ReferenceIdeal.Hand.res_out m' c).trans ?_), (h c).2⟩)
      (Cert.ReferenceIdeal.Value.run (F := Ideal) m' ρ')⟩
  obtain ⟨h0, h1, h2, h3⟩ := hm c
  rw [h0, h1, h2, h3]
  rfl

theorem claim : Cert.Claim :=
  ⟨Cert.Kernel.Gen.facts, Cert.KernelIdeal.Gen.facts, Cert.ReferenceIdeal.Gen.facts, frame_words, frame_ideal, frame_reference, trivial, same_result⟩

end Cert.Proof

end
